-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_c_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_c_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S1x128 : Shape := ⟨2, ![1, 128]⟩
abbrev S32x13x128 : Shape := ⟨3, ![32, 13, 128]⟩
abbrev S32x12x128 : Shape := ⟨3, ![32, 12, 128]⟩
abbrev S50000 : Shape := ⟨1, ![50000]⟩
abbrev S1x1x1x128 : Shape := ⟨4, ![1, 1, 1, 128]⟩
abbrev S128x1x1x128 : Shape := ⟨4, ![128, 1, 1, 128]⟩
abbrev S128x128 : Shape := ⟨2, ![128, 128]⟩
abbrev S13x128 : Shape := ⟨2, ![13, 128]⟩
abbrev S12x128 : Shape := ⟨2, ![12, 128]⟩
abbrev S_ : Shape := ⟨0, ![]⟩
abbrev S1x13x128 : Shape := ⟨3, ![1, 13, 128]⟩
abbrev S1x12x128 : Shape := ⟨3, ![1, 12, 128]⟩
abbrev S128 : Shape := ⟨1, ![128]⟩

abbrev nBuf : Table → Nat
  | .hbm => 10
  | .local .scVector .vmem => 6
  | _ => 0

abbrev bufTy : (tb : Table) → Fin (nBuf tb) → BufTy
  | .hbm, ⟨0, _⟩ => ⟨S100000x128, .f32⟩
  | .hbm, ⟨1, _⟩ => ⟨S1x128, .f32⟩
  | .hbm, ⟨2, _⟩ => ⟨S32x13x128, .i32⟩
  | .hbm, ⟨3, _⟩ => ⟨S32x13x128, .i32⟩
  | .hbm, ⟨4, _⟩ => ⟨S32x12x128, .i32⟩
  | .hbm, ⟨5, _⟩ => ⟨S50000, .i32⟩
  | .hbm, ⟨6, _⟩ => ⟨S1x1x1x128, .f32⟩
  | .hbm, ⟨7, _⟩ => ⟨S128x1x1x128, .f32⟩
  | .hbm, ⟨8, _⟩ => ⟨S128x128, .f32⟩
  | .hbm, ⟨9, _⟩ => ⟨S100000x128, .f32⟩
  | .local .scVector .vmem, ⟨0, _⟩ => ⟨S13x128, .i32⟩
  | .local .scVector .vmem, ⟨1, _⟩ => ⟨S13x128, .i32⟩
  | .local .scVector .vmem, ⟨2, _⟩ => ⟨S12x128, .i32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg0_scv : Ref sig .scVector := ⟨.hbm, 0, rfl⟩
abbrev main_v2_scv : Ref sig .scVector := ⟨.hbm, 8, rfl⟩
abbrev main_c_scv : Ref sig .scVector := ⟨.hbm, 2, rfl⟩
abbrev main_c_0_scv : Ref sig .scVector := ⟨.hbm, 3, rfl⟩
abbrev main_c_1_scv : Ref sig .scVector := ⟨.hbm, 4, rfl⟩
abbrev main_v3_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_292_r0 : BitVec 32 := 0#32
  let c0_i32_293_r0 : BitVec 32 := 0#32
  ![v1.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_292_r2 : BitVec 32 := 0#32
  let c0_i32_293_r2 : BitVec 32 := 0#32
  ![v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S1x128 : Shape := ⟨2, ![1, 128]⟩
abbrev S50000 : Shape := ⟨1, ![50000]⟩
abbrev S2500 : Shape := ⟨1, ![2500]⟩
abbrev S_ : Shape := ⟨0, ![]⟩
abbrev S2500x1 : Shape := ⟨2, ![2500, 1]⟩
abbrev S50000x1 : Shape := ⟨2, ![50000, 1]⟩
abbrev S50000x128 : Shape := ⟨2, ![50000, 128]⟩
abbrev S2500x128 : Shape := ⟨2, ![2500, 128]⟩

abbrev nBuf : Space → Nat
  | .hbm => 53
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1x128, .f32⟩
  | .hbm, ⟨2, _⟩ => ⟨S50000, .i32⟩
  | .hbm, ⟨3, _⟩ => ⟨S2500, .i32⟩
  | .hbm, ⟨4, _⟩ => ⟨S2500, .i32⟩
  | .hbm, ⟨5, _⟩ => ⟨S_, .i32⟩
  | .hbm, ⟨6, _⟩ => ⟨S2500, .i32⟩
  | .hbm, ⟨7, _⟩ => ⟨S2500, .i1⟩
  | .hbm, ⟨8, _⟩ => ⟨S_, .i32⟩
  | .hbm, ⟨9, _⟩ => ⟨S2500, .i32⟩
  | .hbm, ⟨10, _⟩ => ⟨S2500, .i32⟩
  | .hbm, ⟨11, _⟩ => ⟨S2500, .i32⟩
  | .hbm, ⟨12, _⟩ => ⟨S2500x1, .i32⟩
  | .hbm, ⟨13, _⟩ => ⟨S2500, .i32⟩
  | .hbm, ⟨14, _⟩ => ⟨S_, .i32⟩
  | .hbm, ⟨15, _⟩ => ⟨S50000, .i32⟩
  | .hbm, ⟨16, _⟩ => ⟨S50000, .i1⟩
  | .hbm, ⟨17, _⟩ => ⟨S_, .i32⟩
  | .hbm, ⟨18, _⟩ => ⟨S50000, .i32⟩
  | .hbm, ⟨19, _⟩ => ⟨S50000, .i32⟩
  | .hbm, ⟨20, _⟩ => ⟨S50000, .i32⟩
  | .hbm, ⟨21, _⟩ => ⟨S50000x1, .i32⟩
  | .hbm, ⟨22, _⟩ => ⟨S_, .f32⟩
  | .hbm, ⟨23, _⟩ => ⟨S50000x128, .f32⟩
  | .hbm, ⟨24, _⟩ => ⟨S100000x128, .f32⟩
  | .hbm, ⟨25, _⟩ => ⟨S_, .i32⟩
  | .hbm, ⟨26, _⟩ => ⟨S50000, .i32⟩
  | .hbm, ⟨27, _⟩ => ⟨S50000, .i1⟩
  | .hbm, ⟨28, _⟩ => ⟨S_, .i32⟩
  | .hbm, ⟨29, _⟩ => ⟨S50000, .i32⟩
  | .hbm, ⟨30, _⟩ => ⟨S50000, .i32⟩
  | .hbm, ⟨31, _⟩ => ⟨S50000, .i32⟩
  | .hbm, ⟨32, _⟩ => ⟨S50000x1, .i32⟩
  | .hbm, ⟨33, _⟩ => ⟨S50000x128, .f32⟩
  | .hbm, ⟨34, _⟩ => ⟨S100000x128, .f32⟩
  | .hbm, ⟨35, _⟩ => ⟨S_, .i32⟩
  | .hbm, ⟨36, _⟩ => ⟨S2500, .i32⟩
  | .hbm, ⟨37, _⟩ => ⟨S2500, .i1⟩
  | .hbm, ⟨38, _⟩ => ⟨S_, .i32⟩
  | .hbm, ⟨39, _⟩ => ⟨S2500, .i32⟩
  | .hbm, ⟨40, _⟩ => ⟨S2500, .i32⟩
  | .hbm, ⟨41, _⟩ => ⟨S2500, .i32⟩
  | .hbm, ⟨42, _⟩ => ⟨S2500x1, .i32⟩
  | .hbm, ⟨43, _⟩ => ⟨S2500x128, .f32⟩
  | .hbm, ⟨44, _⟩ => ⟨S_, .i32⟩
  | .hbm, ⟨45, _⟩ => ⟨S2500, .i32⟩
  | .hbm, ⟨46, _⟩ => ⟨S2500, .i1⟩
  | .hbm, ⟨47, _⟩ => ⟨S_, .i32⟩
  | .hbm, ⟨48, _⟩ => ⟨S2500, .i32⟩
  | .hbm, ⟨49, _⟩ => ⟨S2500, .i32⟩
  | .hbm, ⟨50, _⟩ => ⟨S2500, .i32⟩
  | .hbm, ⟨51, _⟩ => ⟨S2500x1, .i32⟩
  | .hbm, ⟨52, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_c_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_4 : Ref sig .tc := ⟨.hbm, 14, rfl⟩
abbrev main_v7 : Ref sig .tc := ⟨.hbm, 15, rfl⟩
abbrev main_v8 : Ref sig .tc := ⟨.hbm, 16, rfl⟩
abbrev main_c_5 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_c_6 : Ref sig .tc := ⟨.hbm, 25, rfl⟩
abbrev main_v15 : Ref sig .tc := ⟨.hbm, 26, rfl⟩
abbrev main_v16 : Ref sig .tc := ⟨.hbm, 27, rfl⟩
abbrev main_c_7 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_c_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_10 : Ref sig .tc := ⟨.hbm, 44, rfl⟩
abbrev main_v30 : Ref sig .tc := ⟨.hbm, 45, rfl⟩
abbrev main_v31 : Ref sig .tc := ⟨.hbm, 46, rfl⟩
abbrev main_c_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]
-- ==== Proof.ScatterBatch.lean ====
/-
  Indirect scatters whose lists may name one row more than once.

  A subcore keeps several indirect scatters outstanding on one DMA semaphore, and its lists repeat the last row they name
  (padding): two row transfers may then write the same row, in any order, each the same values. No transfer can own its row.
  Instead the written elements `S` stand in one invariant (`writeBody`), which every element write opens: it holds the
  elements outright, at contents that agree with the intended array `G` at every element some transfer has written so far.
  Each list entry `e` carries a counter that records which of its row's elements are written (`code`). When the subcore has
  every entry's counter back, all rows written, it takes the elements out at `G` (`writeInv_collect`).

  `wp_scatterBatch` issues one such scatter into a counted batch (`Transfers.Batch`) of row transfers on one semaphore.
-/
module

public import Idealize.ShloMosaic.Lib.SparseCore.Scatter
public import Idealize.ShloMosaic.Lib.SparseCore.Ops
public import Idealize.ShloMosaic.Lib.Batch

@[expose] public section

noncomputable section

namespace Cert.Proof.ScatterBatch

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (pending Batch batchBody)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## The write invariant -/

/-- A number for each set of indices of a finite type. -/
def code {T : Type} [Fintype T] [DecidableEq T] (M : Finset T) : ℕ := (Fintype.equivFin (Finset T) M).val

theorem code_injective {T : Type} [Fintype T] [DecidableEq T] : Function.Injective (code (T := T)) := fun M M' h =>
  (Fintype.equivFin (Finset T)).injective (Fin.ext h)

/-- Row `r` of the target, as the view a row transfer writes through. -/
abbrev rowView (v : View sig c.2.kind sp s₀ e) (ax : Fin s₀.rank) (r : Fin (s₀.size ax)) : View sig c.2.kind sp (s₀.rowShape ax) e :=
  v.slice (s₀.rowRect ax r)

variable {E : Type} [Fintype E] [DecidableEq E]

/-- OPEN: the elements `S` of the target outright, agreeing with `G` at every element written so far; each entry's counter
    authority at the set of its row's elements written. -/
def writeOpen (v : View sig c.2.kind sp s₀ e) (ax : Fin s₀.rank) (r : E → Fin (s₀.size ax)) (S : Finset (Idx (v.loc c)))
    (G : Buf (Elt F) (v.loc c)) (γ : E → ℕ) : sProp 𝕄 :=
  iprop(∃ (f : Buf (Elt F) (v.loc c)) (M : E → Finset (s₀.rowShape ax).Idx),
    ⌜∀ k, ∀ x ∈ M k, f ((rowView c v ax (r k)).emb x) = G ((rowView c v ax (r k)).emb x)⌝
    ∗ (v.loc c ↦[S]{fullShare} f) ∗ bigSep Finset.univ (fun k => countAuth EC (γ k) (code (M k))))

/-- CLOSED: every entry's counter back, all elements of its row written. -/
def writeClosed (ax : Fin s₀.rank) (γ : E → ℕ) : sProp 𝕄 :=
  bigSep Finset.univ (fun k : E => count EC (γ k) (code (Finset.univ : Finset (s₀.rowShape ax).Idx)))

/-- The invariant's body. -/
def writeBody (v : View sig c.2.kind sp s₀ e) (ax : Fin s₀.rank) (r : E → Fin (s₀.size ax)) (S : Finset (Idx (v.loc c)))
    (G : Buf (Elt F) (v.loc c)) (γ : E → ℕ) : sProp 𝕄 :=
  iprop(writeOpen EC c v ax r S G γ ∨ writeClosed EC ax γ)

instance writeBody_storable [EC.LandsIn (upEmb : UEmb _ 𝕄)] (v : View sig c.2.kind sp s₀ e) (ax : Fin s₀.rank)
    (r : E → Fin (s₀.size ax)) (S : Finset (Idx (v.loc c))) (G : Buf (Elt F) (v.loc c)) (γ : E → ℕ) :
    Storable (upEmb : UEmb _ 𝕄) (writeBody EC c v ax r S G γ) := by
  unfold writeBody writeOpen writeClosed countAuth count; infer_instance

omit [Preorder Lvl] in
/-- One member's part taken out of a separating conjunction. -/
theorem bigSep_take {I : Type} [DecidableEq I] {T : Finset I} (Φ : I → sProp 𝕄) {i : I} (hi : i ∈ T) :
    bigSep T Φ = iprop(Φ i ∗ bigSep (T.erase i) Φ) := BI.bigSep_erase hi

omit [Preorder Lvl] in
/-- One member's part added to a separating conjunction. -/
theorem bigSep_put {I : Type} [DecidableEq I] {T : Finset I} (Φ : I → sProp 𝕄) {i : I} (hi : i ∉ T) :
    bigSep (insert i T) Φ = iprop(Φ i ∗ bigSep T Φ) := BI.bigSep_insert hi

omit [Preorder Lvl] in
/-- An entry's counter in hand refutes CLOSED. -/
theorem closed_false {ax : Fin s₀.rank} {γ : E → ℕ} (k : E) {p : ℕ} :
    iprop(writeClosed (s₀ := s₀) EC ax γ ∗ count EC (γ k) p) ⊢ (False : sProp 𝕄) := by
  unfold writeClosed
  iintro ⟨Hall, Hc⟩
  ihave H := (Entails.of_eq (bigSep_take (fun k => count EC (γ k) (code (Finset.univ : Finset (s₀.rowShape ax).Idx))) (Finset.mem_univ k))) $$ Hall
  icases H with ⟨Ht, -⟩
  iapply (count_count_false EC (γ := γ k) (m := _) (n := p))
  isplitl [Ht] <;> iassumption

/-- Allocation, from the elements held outright at any contents: nothing written yet. -/
theorem writeInv_alloc [Infinite Name] [EC.LandsIn (upEmb : UEmb _ 𝕄)] (v : View sig c.2.kind sp s₀ e) (ax : Fin s₀.rank)
    (r : E → Fin (s₀.size ax)) (S : Finset (Idx (v.loc c))) (G f : Buf (Elt F) (v.loc c)) {Em : Set Name} :
    (v.loc c ↦[S]{fullShare} f : sProp 𝕄)
      ⊢ |={Em}=> iprop(∃ (γ : E → ℕ) (κ : Name), inv κ (writeBody EC c v ax r S G γ)
          ∗ bigSep Finset.univ (fun k => count EC (γ k) (code (∅ : Finset (s₀.rowShape ax).Idx)))) := by
  iintro Hv
  imod (counts_alloc_family EC (Finset.univ : Finset E)) $$ [] with ⟨%γ, Ha, Hc⟩; · iempintro
  have hupd : iprop(bigSep Finset.univ (fun k => countAuth EC (γ k) 0) ∗ bigSep Finset.univ (fun k => count EC (γ k) 0))
      ⊢ (|==> iprop(bigSep Finset.univ (fun k => countAuth EC (γ k) (code (∅ : Finset (s₀.rowShape ax).Idx)))
          ∗ bigSep Finset.univ (fun k => count EC (γ k) (code (∅ : Finset (s₀.rowShape ax).Idx)))) : sProp 𝕄) := by
    have key : ∀ T : Finset E, iprop(bigSep T (fun k => countAuth EC (γ k) 0) ∗ bigSep T (fun k => count EC (γ k) 0))
      ⊢ (|==> iprop(bigSep T (fun k => countAuth EC (γ k) (code (∅ : Finset (s₀.rowShape ax).Idx)))
          ∗ bigSep T (fun k => count EC (γ k) (code (∅ : Finset (s₀.rowShape ax).Idx)))) : sProp 𝕄) := by
      intro T
      induction T using Finset.induction_on with
      | empty => iintro H; imodintro; simp only [BI.bigSep_empty]; iexact H
      | insert t T ht ih =>
        simp only [bigSep_put _ ht]
        iintro ⟨⟨Ha, Has⟩, ⟨Hc, Hcs⟩⟩
        imod ih $$ [Has Hcs] with ⟨Has, Hcs⟩; · isplitl [Has] <;> iassumption
        icombine Ha Hc as H
        imod (countAuth_count_update EC (code (∅ : Finset (s₀.rowShape ax).Idx))) $$ H with ⟨Ha, Hc⟩
        imodintro
        isplitl [Ha Has]
        · isplitl [Ha] <;> iassumption
        · isplitl [Hc] <;> iassumption
    exact key _
  imod hupd $$ [Ha Hc] with ⟨Ha, Hc⟩; · isplitl [Ha] <;> iassumption
  imod (inv_alloc (P := writeBody EC c v ax r S G γ) (E := Em)) $$ [Hv Ha] with ⟨%κ, Hinv⟩
  · unfold writeBody writeOpen
    ileft; iexists f, fun _ => ∅
    isplitr; · ipureintro; exact fun k x hx => absurd hx (Finset.notMem_empty _)
    isplitl [Hv] <;> iassumption
  imodintro
  iexists γ, κ
  isplitl [Hinv] <;> iassumption

/-- With every entry's counter back, all rows written, and the rows making up `S`, the elements come out at `G`. -/
theorem writeInv_collect [EC.LandsIn (upEmb : UEmb _ 𝕄)] {v : View sig c.2.kind sp s₀ e} {ax : Fin s₀.rank}
    {r : E → Fin (s₀.size ax)} {S : Finset (Idx (v.loc c))} {G : Buf (Elt F) (v.loc c)} {γ : E → ℕ} {κ : Name}
    [Nonempty E] (hS : ∀ i ∈ S, ∃ k, i ∈ (rowView c v ax (r k)).set) :
    iprop(inv κ (writeBody EC c v ax r S G γ) ∗ bigSep Finset.univ (fun k => count EC (γ k) (code (Finset.univ : Finset (s₀.rowShape ax).Idx))))
      ⊢ (|={Set.univ}=> (v.loc c ↦[S]{fullShare} G) : sProp 𝕄) := by
  iintro ⟨Hinv, Hc⟩
  imod (inv_acc (Set.mem_univ κ)) $$ Hinv with ⟨Hb, Hclose⟩
  unfold writeBody
  icases Hb with (Ho | Hcl)
  · unfold writeOpen
    icases Ho with ⟨%f, %M, %hM, Hv, Ha⟩
    have hall : ∀ T : Finset E, iprop(bigSep T (fun k => countAuth EC (γ k) (code (M k)))
        ∗ bigSep T (fun k => count EC (γ k) (code (Finset.univ : Finset (s₀.rowShape ax).Idx))))
        ⊢ (⌜∀ k ∈ T, M k = Finset.univ⌝ : sProp 𝕄) := by
      intro T
      induction T using Finset.induction_on with
      | empty => iintro -; ipureintro; exact fun k hk => absurd hk (Finset.notMem_empty _)
      | insert t T ht ih =>
        simp only [bigSep_put _ ht]
        iintro ⟨⟨Ha, Has⟩, ⟨Hc, Hcs⟩⟩
        ihave %h := ih $$ [Has Hcs]; · isplitl [Has] <;> iassumption
        icombine Ha Hc gives %hm
        ipureintro
        intro k hk
        rcases Finset.mem_insert.mp hk with rfl | hk
        · exact code_injective (by first | exact hm | exact hm.symm)
        · exact h k hk
    ihave %hU := hall Finset.univ $$ [Ha Hc]; · isplitl [Ha] <;> iassumption
    have hfG : ∀ i ∈ S, f i = G i := fun i hi => by
      obtain ⟨k, hk⟩ := hS i hi
      obtain ⟨x, -, rfl⟩ := Finset.mem_map.mp hk
      exact hM k x (by rw [hU k (Finset.mem_univ k)]; exact Finset.mem_univ x)
    ihave Hcl := Hclose $$ [Hc]
    · iright; unfold writeClosed; iexact Hc
    imod Hcl
    imodintro
    rw [← pointsTo_congr hfG]
    iexact Hv
  · iexfalso
    obtain ⟨k⟩ := ‹Nonempty E›
    ihave H := (Entails.of_eq (bigSep_take (fun k => count EC (γ k) (code (Finset.univ : Finset (s₀.rowShape ax).Idx))) (Finset.mem_univ k))) $$ Hc
    icases H with ⟨Ht, -⟩
    iapply (closed_false EC k); isplitl [Hcl] <;> iassumption

/-- The write update of entry `k`'s row transfer, from the invariant and the entry's counter at nothing written: what it
    writes is what `G` holds in that row (`hw`), the row inside `S`. It yields the counter at the whole row written. -/
theorem write_update [EC.LandsIn (upEmb : UEmb _ 𝕄)] {v : View sig c.2.kind sp s₀ e} {ax : Fin s₀.rank}
    {r : E → Fin (s₀.size ax)} {S : Finset (Idx (v.loc c))} {G : Buf (Elt F) (v.loc c)} {γ : E → ℕ} {κ : Name} (k : E)
    (hS : (rowView c v ax (r k)).set ⊆ S) {w : (s₀.rowShape ax).Idx → Elt F e}
    (hw : w = (rowView c v ax (r k)).read (Elt F) G) :
    iprop(inv κ (writeBody EC c v ax r S G γ) ∗ count EC (γ k) (code (∅ : Finset (s₀.rowShape ax).Idx)))
      ⊢ (writeUpdate c (rowView c v ax (r k)) w (count EC (γ k) (code (Finset.univ : Finset (s₀.rowShape ax).Idx))) : sProp 𝕄) := by
  classical
  rw [writeUpdate, writeUpdateFrom_def]
  iintro ⟨#Hinv, Hc⟩
  iexists (fun M => iprop(inv κ (writeBody EC c v ax r S G γ) ∗ count EC (γ k) (code M)))
  isplitl [Hc]
  · isplitr; · iexact Hinv
    iexact Hc
  isplitr
  · rw [writeSteps_def]
    iintro
    imodintro
    iintro %M %M' HA
    ihave HA' := (show (fun M => iprop(inv κ (writeBody EC c v ax r S G γ) ∗ count EC (γ k) (code M))) M
      ⊢ iprop(inv κ (writeBody EC c v ax r S G γ) ∗ count EC (γ k) (code M)) from .rfl) $$ HA
    icases HA' with ⟨#Hinv, Hc⟩
    imod (inv_acc (Set.mem_univ κ)) $$ Hinv with ⟨Hb, Hclose⟩
    unfold writeBody
    icases Hb with (Ho | Hcl)
    · unfold writeOpen
      icases Ho with ⟨%f, %W, %hW, Hv, Ha⟩
      imodintro
      rw [storeSpec_apply]
      iexists S, f
      isplitl [Hv]; · iexact Hv
      isplitr; · ipureintro; exact fun i hi => hS ((rowView c v ax (r k)).setOn_subset_set _ hi)
      iintro Hv
      ihave Ha' := (Entails.of_eq (bigSep_take (fun k => countAuth EC (γ k) (code (W k))) (Finset.mem_univ k))) $$ Ha
      icases Ha' with ⟨Ha, Has⟩
      icombine Ha Hc gives %hm
      have hWk : W k = M := code_injective (by first | exact hm | exact hm.symm)
      ihave Ha := (Entails.of_eq (congrArg (fun X => countAuth EC (γ k) (code X)) hWk)) $$ Ha
      icombine Ha Hc as H
      imod (countAuth_count_update EC (code (M ∪ M'))) $$ H with ⟨Ha, Hc⟩
      have hval : ∀ i, ((rowView c v ax (r k)).write (Elt F) f w M') i
          = if i ∈ (rowView c v ax (r k)).setOn M' then G i else f i := fun i => by
        rw [hw, View.write_read_eq_piecewise]; rfl
      ihave Hcl := Hclose $$ [Hv Ha Has]
      · ileft
        iexists ((rowView c v ax (r k)).write (Elt F) f w M'), (Function.update W k (M ∪ M'))
        isplitr
        · ipureintro
          intro k' x hx
          rw [hval]
          split
          · rfl
          · rename_i hn
            by_cases hk : k' = k
            · subst hk
              rw [Function.update_self] at hx
              rcases Finset.mem_union.mp hx with hx | hx
              · exact hW _ _ (by rw [hWk]; exact hx)
              · exact absurd (Finset.mem_map_of_mem _ hx) hn
            · rw [Function.update_of_ne hk] at hx
              exact hW _ _ hx
        isplitl [Hv]; · iexact Hv
        iapply (Entails.of_eq (bigSep_take (fun k' => countAuth EC (γ k') (code (Function.update W k (M ∪ M') k'))) (Finset.mem_univ k)).symm)
        isplitl [Ha]; · iapply (Entails.of_eq (congrArg (fun X => countAuth EC (γ k) (code X)) (Function.update_self (f := W) k (M ∪ M')).symm)) $$ Ha
        iapply (Entails.of_eq (BI.bigSep_congr (s := Finset.univ.erase k) (Φ := fun k' => countAuth EC (γ k') (code (W k')))
          (Ψ := fun k' => countAuth EC (γ k') (code (Function.update W k (M ∪ M') k'))) fun k' hk' => by
            rw [Function.update_of_ne (Finset.ne_of_mem_erase hk')])) $$ Has
      imod Hcl
      imodintro
      isplitr; · iexact Hinv
      iexact Hc
    · iexfalso
      iapply (closed_false EC k); isplitl [Hcl] <;> iassumption
  · iintro HA
    ihave HA' := (show (fun M => iprop(inv κ (writeBody EC c v ax r S G γ) ∗ count EC (γ k) (code M))) Finset.univ
      ⊢ iprop(inv κ (writeBody EC c v ax r S G γ) ∗ count EC (γ k) (code Finset.univ)) from .rfl) $$ HA
    icases HA' with ⟨-, Hc⟩
    iexact Hc

/-! ## A batch's issue rights, several at a time -/

omit [Preorder Lvl] in
/-- The issue rights from the `k`-th on are the next `o` and those from the `(k + o)`-th on. -/
theorem bigSep_pending_add {n : ℕ} (D : Fin n → sProp 𝕄) (k o : ℕ) (hk : k + o ≤ n) :
    bigSep (pending k) D = iprop(bigSep Finset.univ (fun j : Fin o => D ⟨k + j.val, by omega⟩) ∗ bigSep (pending (k + o)) D) := by
  classical
  have hu : (pending k : Finset (Fin n)) = (Finset.univ.image fun j : Fin o => (⟨k + j.val, by omega⟩ : Fin n)) ∪ pending (k + o) := by
    ext t
    simp only [pending, Finset.mem_filter, Finset.mem_univ, true_and, Finset.mem_union, Finset.mem_image]
    constructor
    · intro h
      by_cases h2 : k + o ≤ t.val
      · exact .inr h2
      · exact .inl ⟨⟨t.val - k, by omega⟩, Fin.ext (by simp only; omega)⟩
    · rintro (⟨j, rfl⟩ | h)
      · simp
      · omega
  have hd : Disjoint (Finset.univ.image fun j : Fin o => (⟨k + j.val, by omega⟩ : Fin n)) (pending (k + o)) := by
    rw [Finset.disjoint_left]
    intro t ht ht'
    obtain ⟨j, -, rfl⟩ := Finset.mem_image.mp ht
    simp only [pending, Finset.mem_filter, Finset.mem_univ, true_and] at ht'
    omega
  have hi : Function.Injective fun j : Fin o => (⟨k + j.val, by omega⟩ : Fin n) := fun j j' h => Fin.ext (by
    have := congrArg Fin.val h; simp only at this; omega)
  rw [hu, BI.bigSep_union hd, show (Finset.univ.image fun j : Fin o => (⟨k + j.val, by omega⟩ : Fin n)) = Finset.univ.map ⟨_, hi⟩ from
    (Finset.map_eq_image ⟨_, hi⟩ _).symm, SparseCore.bigSep_map]
  rfl

/-! ## The issue -/

/-- What entry `j` of an issued scatter delivers: its counter at its row written, its element of the list, its row of the source. -/
def entryDone (src : Memref sig c.2.kind .vmem s e) (offs : Memref sig c.2.kind .vmem si .i32) (hg : s₀.Gathers a s)
    (hn : si.numel = s.size hg.axis') (q qo : PosShare TreeShare) (fs : Buf (Elt F) (src.view.loc c)) (fo : Buf (Elt F) (offs.view.loc c)) (γ : ℕ)
    (j : Fin (s.size hg.axis')) : sProp 𝕄 :=
  iprop((count EC γ (code (Finset.univ : Finset (s₀.rowShape hg.axis).Idx))
      ∗ (offs.view.loc c ↦[{offs.view.emb (si.rowMajor.symm (j.cast hn.symm))}]{qo} fo))
    ∗ (src.view.loc c ↦[(src.view.slice (s.rowRect hg.axis' j)).set]{q} fs))

instance entryDone_storable [EC.LandsIn (upEmb : UEmb _ 𝕄)] (src : Memref sig c.2.kind .vmem s e) (offs : Memref sig c.2.kind .vmem si .i32) (hg : s₀.Gathers a s)
    (hn : si.numel = s.size hg.axis') (q qo : PosShare TreeShare) (fs : Buf (Elt F) (src.view.loc c)) (fo : Buf (Elt F) (offs.view.loc c)) (γ : ℕ)
    (j : Fin (s.size hg.axis')) : Storable (upEmb : UEmb _ 𝕄) (entryDone (F := F) (s₀ := s₀) EC c src offs hg hn q qo fs fo γ j) := by
  unfold entryDone count; infer_instance

/-- All entries' deliveries of one scatter: every counter at its row written, the list's share and the source's. -/
theorem entries_collect {src : Memref sig c.2.kind .vmem s e} {offs : Memref sig c.2.kind .vmem si .i32} {hg : s₀.Gathers a s}
    {hn : si.numel = s.size hg.axis'} {q qo : PosShare TreeShare} {fs : Buf (Elt F) (src.view.loc c)} {fo : Buf (Elt F) (offs.view.loc c)}
    {γ : Fin (s.size hg.axis') → ℕ} :
    bigSep Finset.univ (fun j => entryDone (F := F) (s₀ := s₀) EC c src offs hg hn q qo fs fo (γ j) j)
      ⊢ (iprop(bigSep Finset.univ (fun j => count EC (γ j) (code (Finset.univ : Finset (s₀.rowShape hg.axis).Idx)))
          ∗ (offs.view.loc c ↦[offs.view.set]{qo} fo) ∗ (src.view.loc c ↦[src.view.set]{q} fs)) : sProp 𝕄) := by
  have hen : Function.Bijective (fun j : Fin (s.size hg.axis') => si.rowMajor.symm (j.cast hn.symm)) :=
    si.rowMajor.symm.bijective.comp (finCongr hn.symm).bijective
  unfold entryDone
  iintro H
  ihave H1 := Transfers.bigSep_sep_out _ _ _ $$ H
  icases H1 with ⟨H2, Hsrc⟩
  ihave H3 := Transfers.bigSep_sep_out _ _ _ $$ H2
  icases H3 with ⟨Hc, Hoffs⟩
  isplitl [Hc]; · iexact Hc
  isplitl [Hoffs]
  · iapply (Entails.of_eq (pointsTo_entries c offs.view _ hen qo fo).symm) $$ Hoffs
  · iapply (Entails.of_eq (pointsTo_rows c src.view hg.axis' q fs).symm) $$ Hsrc

/-- `enqueueIndirectScatter` at the head of a program, its row transfers the next of a batch on its semaphore. The issuer hands
    in a share of the source, a share of the list, the entries' counters at nothing written, and the batch. Every word of the
    list is in range (`hin`), entry `j` names row `r (en j)` (`hrow`), that row lies in `S` and row `j` of the source is what
    `G` holds there (`hpay`). It continues with the batch so many transfers further. -/
theorem wp_scatterBatch [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    (ι : Ix) (N : ℕ) (hs : 0 < s.numel) (hin : ∀ x, (offs.view.read (Elt F) fo x).toNat < s₀.size hg.axis)
    {r : E → Fin (s₀.size hg.axis)} {S : Finset (Idx (dst.view.loc c))} {G : Buf (Elt F) (dst.view.loc c)} {γ : E → ℕ} {κ : Name}
    (en : Fin (s.size hg.axis') → E)
    (hrow : ∀ j, SparseCore.rows (offs.view.read (Elt F) fo) hn hin j = r (en j))
    (hS : ∀ j, (rowView c dst.view hg.axis (r (en j))).set ⊆ S)
    (hpay : ∀ j, SparseCore.scatterRowPayload c src hg fs j = (rowView c dst.view hg.axis (r (en j))).read (Elt F) G)
    (hN : ∀ i, (dst.slice (s₀.rowRect hg.axis i) (s₀.stride_rowRect hg.axis _)).view.dmaCredit = N)
    {n : ℕ} {D : Fin n → sProp 𝕄} {k₀ u : ℕ} (hk : k₀ + s.size hg.axis' ≤ n) (hu : u ≤ k₀ * N)
    (hD : ∀ j, entryDone (F := F) (s₀ := s₀) EC c src offs hg hn q qo fs fo (γ (en j)) j ⊢ D ⟨k₀ + j.val, by omega⟩) :
    iprop((src.view.loc c ↦[src.view.set]{q} fs) ∗ (offs.view.loc c ↦[offs.view.set]{qo} fo)
        ∗ inv κ (writeBody EC c dst.view hg.axis r S G γ)
        ∗ bigSep Finset.univ (fun j => count EC (γ (en j)) (code (∅ : Finset (s₀.rowShape hg.axis).Idx)))
        ∗ Batch EC c (.dma sem) ι N D k₀ u)
      ⊢ iprop((Batch EC c (.dma sem) ι N D (k₀ + s.size hg.axis') u -∗ wp frame (wpE defs 𝒱 c bd) Set.univ (k ⟨⟩) Q)
          -∗ wp frame (wpE defs 𝒱 c bd) Set.univ (SparseCore.enqueueIndirectScatter hp src dst hg offs hn sem he hsp hr >>= k) Q) := by
  classical
  rw [SparseCore.enqueueIndirectScatter_bind]
  have ho : 0 < s.size hg.axis' := Shape.size_pos_of_numel_pos hs _
  let St : Stream nD τ sig (Elt F) :=
    Stream.issued c offs.view hn sem (fun j w => (SparseCore.rowOf (s₀.size hg.axis) w).map (SparseCore.scatterRow c src dst hg sem he hsp hr j)) 0
  let rd : Fin (s.size hg.axis') → RowDma τ sig (Elt F) c.2 sem := fun j => SparseCore.scatterRow c src dst hg sem he hsp hr j (r (en j))
  have hA : St.RowsAgree := by
    intro j x x' ρ ρ' h h'
    obtain ⟨_, _, rfl⟩ := Option.map_eq_some_iff.mp h
    obtain ⟨_, _, rfl⟩ := Option.map_eq_some_iff.mp h'
    rfl
  have hrd : ∀ j, St.row j (St.word fo j) = some (rd j) := fun j => by
    change (SparseCore.rowOf (s₀.size hg.axis) (offs.view.read (Elt F) fo (St.entry j))).map _ = _
    rw [SparseCore.rowOf_of_lt (hin _), Option.map_some]
    exact congrArg (fun i => some (SparseCore.scatterRow c src dst hg sem he hsp hr j i)) (hrow j)
  have hen : Function.Bijective St.entry := (si.rowMajor.symm.bijective.comp (finCongr hn.symm).bijective)
  have hsrcset : ∀ j, (src.view.slice (s.rowRect hg.axis' j)).set = (rd j).src.view.set := fun j =>
    (View.set_cast (v := src.view.slice (s.rowRect hg.axis' j)) _ _).symm
  have hsum : ∑ j, (rd j).dst.view.dmaCredit = s.size hg.axis' * N := by
    rw [Finset.sum_congr rfl fun j _ => hN (r (en j)), Finset.sum_const, Finset.card_univ, Fintype.card_fin, smul_eq_mul]
  have ham : ∀ j, (rd j).dst.view.amount (.dma sem) = N := fun j => (View.amount_dma _ _).trans (hN _)
  unfold Batch
  iintro ⟨Hs, Ho, #Hw, Hγ, ⟨%γb, %γ₀, %κb, #Hinv, HI, H0, Hcred⟩⟩ Hk
  ihave HI' := (Entails.of_eq (bigSep_pending_add (fun t => count EC (γb t) 0) k₀ (s.size hg.axis') hk)) $$ HI
  icases HI' with ⟨Hb, HI⟩
  ihave Ho' := (Entails.of_eq (pointsTo_entries c offs.view St.entry hen qo fo)) $$ Ho
  ihave Hs' := (Entails.of_eq (pointsTo_rows c src.view hg.axis' q fs)) $$ Hs
  iapply (wp_enqueueIndirectDma 𝒱 c bd Set.univ (qo := qo) (fo := fo) (rd := rd) ι (s.size hg.axis' * N) hA hrd hsum) $$ [Ho' Hs' Hγ Hb]
  · have hrow : ∀ j : Fin (s.size hg.axis'), iprop(iprop(inv κ (writeBody EC c dst.view hg.axis r S G γ) ∗ inv κb (batchBody EC (c, SemLoc.dma sem) N D γb γ₀))
          ∗ (((count EC (γ (en j)) (code (∅ : Finset (s₀.rowShape hg.axis).Idx)) ∗ St.heldEntry qo fo j)
            ∗ (src.view.loc c ↦[(src.view.slice (s.rowRect hg.axis' j)).set]{q} fs)) ∗ count EC (γb ⟨k₀ + j.val, by omega⟩) 0))
        ⊢ iprop(St.heldEntry qo fo j ∗ (St.heldEntry qo fo j -∗ rowRes c (rd j))) := fun j => by
      iintro ⟨⟨#Hw, #Hinv⟩, ⟨⟨Hγj, He⟩, Hsq⟩, Hbj⟩
      isplitl [He]; · iexact He
      iintro He
      unfold rowRes
      iexists q, fs, iprop(count EC (γ (en j)) (code (Finset.univ : Finset (s₀.rowShape hg.axis).Idx)) ∗ St.heldEntry qo fo j)
      isplitl [Hsq]; · iapply (Entails.of_eq (congrArg (fun I => (src.view.loc c ↦[I]{q} fs : sProp 𝕄)) (hsrcset j))) $$ Hsq
      isplitl [Hγj He]
      · iapply writeUpdate_frame
        isplitl [Hγj]
        · iapply (write_update EC c (v := dst.view) (G := G) (γ := γ) (κ := κ) (en j) (hS j) (hpay j))
          isplitr; · iexact Hw
          iexact Hγj
        · iexact He
      · iapply (Entails.of_eq (show (creditUpdate (c, SemLoc.dma sem) N 0
            iprop((count EC (γ (en j)) (code (Finset.univ : Finset (s₀.rowShape hg.axis).Idx)) ∗ St.heldEntry qo fo j)
              ∗ (src.view.loc c ↦[(src.view.slice (s.rowRect hg.axis' j)).set]{q} fs)) : sProp 𝕄)
            = creditUpdate (c, SemLoc.dma sem) ((rd j).dst.view.amount (.dma sem)) 0
            iprop((count EC (γ (en j)) (code (Finset.univ : Finset (s₀.rowShape hg.axis).Idx)) ∗ St.heldEntry qo fo j)
              ∗ ((rd j).src.view.loc c ↦[(rd j).src.view.set]{q} fs)) from by rw [ham j, hsrcset j]))
        iapply (Transfers.batch_creditUpdate EC (g := (c, SemLoc.dma sem)) (γ := γb) (γ₀ := γ₀) (ι := κb) ⟨k₀ + j.val, by omega⟩ (hD j))
        isplitr; · iexact Hinv
        iexact Hbj
    unfold Stream.res
    ihave H1 := Transfers.bigSep_sep_in _ _ _ $$ [Hγ Ho']; · isplitl [Hγ] <;> iassumption
    ihave H2 := Transfers.bigSep_sep_in _ _ _ $$ [H1 Hs']; · isplitl [H1] <;> iassumption
    ihave H3 := Transfers.bigSep_sep_in _ _ _ $$ [H2 Hb]; · isplitl [H2] <;> iassumption
    iapply (Transfers.bigSep_mono_pers Finset.univ _ _ _ fun j _ => hrow j)
    isplitr
    · isplitr; · iexact Hw
      iexact Hinv
    iexact H3
  · iintro Hcred'
    iapply Hk
    iexists γb, γ₀, κb
    isplitr; · iexact Hinv
    isplitl [HI]; · iexact HI
    isplitl [H0]; · iexact H0
    rw [show (k₀ + s.size hg.axis') * N - u = (k₀ * N - u) + s.size hg.axis' * N by rw [Nat.add_mul]; omega, ← tallyAt_add]
    icombine Hcred Hcred' as H
    iexact H

end Cert.Proof.ScatterBatch

end
-- ==== Proof.Tile.lean ====
/-
  One tile of the SparseCore call: the program of a vector subcore, run once at a symbolic tile.

  The tile fetches its three index lists and the block of token rows, starts twelve scatters of token rows, then gathers
  thirteen chunks of rows of `x` alternately into two buffers and scatters each to the output. The steps below say what the
  tile holds before and after each transfer it starts and each wait; the output's contents `G` are carried by the write
  invariant of `ScatterBatch` from the start.
-/
module

public import proofs.«01_k».proof.Defs
public import proofs.«01_k».proof.Proof.ScatterBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.Kernel
public import proofs.«01_k».proof.Proof.Gen.Kernel.Skeleton

@[expose] public section

noncomputable section

namespace Cert.Proof.KernelTile

open Cert.Kernel Cert.Kernel.Gen
open Cert.Proof.ScatterBatch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (pending Batch)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the transfers' counters -/

abbrev UH : Type := URounds (GSem nD τ sig) ℕ
abbrev UU : Type := UH × Counters

local notation "𝕄" => MT nD τ sig (HIx 1) (Elt F) ℕ UU ℕ

/-! ## The buffers of a tile -/

/-- The operands, as a tile addresses them: `x`, the token block, the source rows, the two target lists, the output. -/
abbrev xM : Memref sig .scVector .hbm S100000x128 .f32 := Memref.whole main_arg0_scv
abbrev tbM : Memref sig .scVector .hbm S128x128 .f32 := Memref.whole main_v2_scv
abbrev csM : Memref sig .scVector .hbm S32x13x128 .i32 := Memref.whole main_c_scv
abbrev cdM : Memref sig .scVector .hbm S32x13x128 .i32 := Memref.whole main_c_0_scv
abbrev tdM : Memref sig .scVector .hbm S32x12x128 .i32 := Memref.whole main_c_1_scv
abbrev oM : Memref sig .scVector .hbm S100000x128 .f32 := Memref.whole main_v3_scv
/-- The scratch: the three lists, the two row buffers, the token rows. -/
abbrev csV : Memref sig .scVector .vmem S13x128 .i32 := Memref.whole cc0_scratch0
abbrev cdV : Memref sig .scVector .vmem S13x128 .i32 := Memref.whole cc0_scratch1
abbrev tdV : Memref sig .scVector .vmem S12x128 .i32 := Memref.whole cc0_scratch2
abbrev r0V : Memref sig .scVector .vmem S128x128 .f32 := Memref.whole cc0_scratch3
abbrev r1V : Memref sig .scVector .vmem S128x128 .f32 := Memref.whole cc0_scratch4
abbrev tkV : Memref sig .scVector .vmem S128x128 .f32 := Memref.whole cc0_scratch5

/-- `x` and the output as the indirect transfers address them: the whole array. -/
abbrev xA : Memref sig .scVector .hbm S100000x128 .f32 :=
  xM.slice (Rect.unit (s := S100000x128) ![0, 0] S100000x128.size inb_S100000x128_S100000x128_0_0) (fun _ => rfl)
abbrev oA : Memref sig .scVector .hbm S100000x128 .f32 :=
  oM.slice (Rect.unit (s := S100000x128) ![0, 0] S100000x128.size inb_S100000x128_S100000x128_0_0) (fun _ => rfl)

theorem inbT (k : ℕ) (hk : k < 12) : ∀ a, (![k, 0] : Fin 2 → Nat) a + S1x128.size a ≤ S12x128.size a := by
  intro a; match a with
  | 0 => show k + 1 ≤ 12; omega
  | 1 => show 0 + 128 ≤ 128; omega
theorem inbC (k : ℕ) (hk : k < 13) : ∀ a, (![k, 0] : Fin 2 → Nat) a + S1x128.size a ≤ S13x128.size a := by
  intro a; match a with
  | 0 => show k + 1 ≤ 13; omega
  | 1 => show 0 + 128 ≤ 128; omega

/-- Row `k` of a list, as an indirect transfer names it. -/
abbrev rowT (M : Memref sig .scVector .vmem S12x128 .i32) (k : ℕ) (hk : k < 12) : Memref sig .scVector .vmem S128 .i32 :=
  (M.slice (Rect.unit (s := S12x128) ![k, 0] S1x128.size (inbT k hk)) (fun _ => rfl)).squeeze S128 squeezes_S1x128_S128
abbrev rowC (M : Memref sig .scVector .vmem S13x128 .i32) (k : ℕ) (hk : k < 13) : Memref sig .scVector .vmem S128 .i32 :=
  (M.slice (Rect.unit (s := S13x128) ![k, 0] S1x128.size (inbC k hk)) (fun _ => rfl)).squeeze S128 squeezes_S1x128_S128

abbrev hg : S100000x128.Gathers 0 S128x128 := gathers_S100000x128_S128x128

/-- The credit of one row transfer. -/
abbrev N1 : ℕ := (oA.slice (S100000x128.rowRect hg.axis ⟨0, by decide⟩) (S100000x128.stride_rowRect hg.axis _)).view.dmaCredit

theorem hN1 (i : Fin (S100000x128.size hg.axis)) :
    (oA.slice (S100000x128.rowRect hg.axis i) (S100000x128.stride_rowRect hg.axis _)).view.dmaCredit = N1 := rfl
theorem N1_pos : 0 < N1 := by decide
theorem credit_tk : tkV.view.dmaCredit = 128 * N1 := by decide
theorem credit_r0 : r0V.view.dmaCredit = 128 * N1 := by decide
theorem credit_r1 : r1V.view.dmaCredit = 128 * N1 := by decide

abbrev cV (L : grid0.Coords) : Fin τ.nSC := (L 0).castLE hcore0
abbrev jV (L : grid0.Coords) : Fin τ.nSub := (L 1).castLE hsub0

/-- The elements of the rows named by some entry. -/
def rowsUnion {E : Type} [Fintype E] {sp : Space} {s₀ : Shape} {e : EltTy} (c : Thread nD τ) (v : View sig c.2.kind sp s₀ e) (ax : Fin s₀.rank)
    (r : E → Fin (s₀.size ax)) : Finset (Idx (v.loc c)) :=
  Finset.univ.biUnion fun k : E => (rowView c v ax (r k)).set

theorem subset_rowsUnion {E : Type} [Fintype E] {sp : Space} {s₀ : Shape} {e : EltTy} (c : Thread nD τ) (v : View sig c.2.kind sp s₀ e) (ax : Fin s₀.rank)
    (r : E → Fin (s₀.size ax)) (k : E) : (rowView c v ax (r k)).set ⊆ rowsUnion c v ax r := by
  intro i hi
  exact Finset.mem_biUnion.2 ⟨k, Finset.mem_univ k, hi⟩

theorem exists_of_mem_rowsUnion {E : Type} [Fintype E] {sp : Space} {s₀ : Shape} {e : EltTy} (c : Thread nD τ) (v : View sig c.2.kind sp s₀ e) (ax : Fin s₀.rank)
    (r : E → Fin (s₀.size ax)) : ∀ i ∈ rowsUnion c v ax r, ∃ k, i ∈ (rowView c v ax (r k)).set := by
  intro i hi
  obtain ⟨k, _, hk⟩ := Finset.mem_biUnion.1 hi
  exact ⟨k, hk⟩

/-! ## What the lists name -/

section Steps

variable (d : Dev nD) (L : grid0.Coords)

abbrev thr : Thread nD τ := V d (cV L) (jV L)

/-- A tile's data once its fetches have landed: the lists, the token rows, `x`, and the output's contents `G` they give. -/
structure Data where
  cs : Buf (Elt F) (csV.view.loc (thr d L))
  cd : Buf (Elt F) (cdV.view.loc (thr d L))
  td : Buf (Elt F) (tdV.view.loc (thr d L))
  tk : Buf (Elt F) (tkV.view.loc (thr d L))
  x : Buf (Elt F) (xA.view.loc (thr d L))
  G : Buf (Elt F) (oA.view.loc (thr d L))
  hcs : ∀ k hk y, ((rowC csV k hk).view.read (Elt F) cs y).toNat < S100000x128.size hg.axis
  hcd : ∀ k hk y, ((rowC cdV k hk).view.read (Elt F) cd y).toNat < S100000x128.size hg.axis
  htd : ∀ k hk y, ((rowT tdV k hk).view.read (Elt F) td y).toNat < S100000x128.size hg.axis
  payT : ∀ k hk (j : Fin (S128x128.size hg.axis')), SparseCore.scatterRowPayload (thr d L) tkV hg tk j
    = (rowView (thr d L) oA.view hg.axis (SparseCore.rows ((rowT tdV k hk).view.read (Elt F) td) rfl (htd k hk) j)).read (Elt F) G
  payC : ∀ k hk (j : Fin (S128x128.size hg.axis')) (R : Memref sig .scVector .vmem S128x128 .f32) (fd : Buf (Elt F) (R.view.loc (thr d L))),
    SparseCore.scatterRowPayload (thr d L) R hg (R.view.write (Elt F) fd
        (SparseCore.gatherPayload hg (xA.view.read (Elt F) x) (SparseCore.rows ((rowC csV k hk).view.read (Elt F) cs) rfl (hcs k hk))) Finset.univ) j
    = (rowView (thr d L) oA.view hg.axis (SparseCore.rows ((rowC cdV k hk).view.read (Elt F) cd) rfl (hcd k hk) j)).read (Elt F) G

variable {d L} (A : Data (F := F) d L)

/-- The entries: the token lists', then the copied rows'. -/
abbrev Ent : Type := (Fin 12 × Fin 128) ⊕ (Fin 13 × Fin 128)

/-- The output row an entry names. -/
def rowOfEnt : Ent → Fin (S100000x128.size hg.axis)
  | .inl p => SparseCore.rows ((rowT tdV p.1.val p.1.isLt).view.read (Elt F) A.td) rfl (A.htd _ p.1.isLt) p.2
  | .inr p => SparseCore.rows ((rowC cdV p.1.val p.1.isLt).view.read (Elt F) A.cd) rfl (A.hcd _ p.1.isLt) p.2

/-- The output's elements the tile writes. -/
def outSet : Finset (Idx (oA.view.loc (thr d L))) := rowsUnion (thr d L) oA.view hg.axis (rowOfEnt A)

theorem subset_outSet (k : Ent) : (rowView (thr d L) oA.view hg.axis (rowOfEnt A k)).set ⊆ outSet A :=
  subset_rowsUnion (thr d L) oA.view hg.axis (rowOfEnt A) k

variable [FloatOps F]
variable (γ : Ent → ℕ) (κ : ℕ)

abbrev EC : UEmb Counters 𝕄 := countersEmb

/-- The tile's write invariant. -/
abbrev wInv : sProp 𝕄 := inv κ (writeBody EC (thr d L) oA.view hg.axis (rowOfEnt A) (outSet A) A.G γ)

/-- An entry's counter before its row is written, and after. -/
abbrev c0 (k : Ent) : sProp 𝕄 := count EC (γ k) (code (∅ : Finset (S100000x128.rowShape hg.axis).Idx))
abbrev c1 (k : Ent) : sProp 𝕄 := count EC (γ k) (code (Finset.univ : Finset (S100000x128.rowShape hg.axis).Idx))

/-! ## The token scatters -/

theorem h12 : 0 < 12 := by decide

/-- What token scatter `k` takes: its row of the list, its share of the token rows, its entries' counters. -/
def pieceT (k : Fin 12) : sProp 𝕄 :=
  iprop((tkV.view.loc (thr d L) ↦[tkV.view.set]{pieceOf fullShare 12 h12 k} A.tk)
    ∗ ((rowT tdV k.val k.isLt).view.loc (thr d L) ↦[(rowT tdV k.val k.isLt).view.set]{fullShare} A.td)
    ∗ bigSep Finset.univ fun j : Fin 128 => c0 (F := F) γ (.inl (k, j)))

/-- What it gives back. -/
def backT (k : Fin 12) : sProp 𝕄 :=
  iprop((bigSep Finset.univ fun j : Fin 128 => c1 (F := F) γ (.inl (k, j)))
    ∗ ((rowT tdV k.val k.isLt).view.loc (thr d L) ↦[(rowT tdV k.val k.isLt).view.set]{fullShare} A.td)
    ∗ (tkV.view.loc (thr d L) ↦[tkV.view.set]{pieceOf fullShare 12 h12 k} A.tk))

/-- Delivery `j` of token scatter `k`. -/
def delT (k : Fin 12) (j : Fin 128) : sProp 𝕄 :=
  entryDone (F := F) (s₀ := S100000x128) EC (thr d L) tkV (rowT tdV k.val k.isLt) hg rfl (pieceOf fullShare 12 h12 k) fullShare A.tk A.td (γ (.inl (k, j))) j

instance (k : Fin 12) (j : Fin 128) : Storable (upEmb : UEmb _ 𝕄) (delT A γ k j) :=
  entryDone_storable (F := F) (s₀ := S100000x128) EC (thr d L) tkV (rowT tdV k.val k.isLt) hg rfl (pieceOf fullShare 12 h12 k) fullShare A.tk A.td (γ (.inl (k, j))) j

theorem delT_collect (k : Fin 12) : bigSep Finset.univ (delT A γ k) ⊢ backT A γ k :=
  entries_collect (F := F) (s₀ := S100000x128) EC (thr d L) (src := tkV) (offs := rowT tdV k.val k.isLt) (hg := hg) (hn := rfl)
    (γ := fun j => γ (.inl (k, j)))

/-- The deliveries of all token scatters, in order of issue. -/
def allT (t : Fin (12 * 128)) : sProp 𝕄 := delT A γ t.divNat t.modNat

instance (t : Fin (12 * 128)) : Storable (upEmb : UEmb _ 𝕄) (allT A γ t) := by unfold allT; infer_instance

theorem allT_collect : bigSep Finset.univ (allT A γ) ⊢ bigSep Finset.univ (backT A γ) := by
  rw [bigSep_univ_equiv finProdFinEquiv, bigSep_univ_prod]
  refine BI.bigSep_mono fun k _ => ?_
  refine Entails.trans (Entails.of_eq ?_) (delT_collect A γ k)
  refine BI.bigSep_congr fun j _ => ?_
  show delT A γ (finProdFinEquiv.symm (finProdFinEquiv (k, j))).1 (finProdFinEquiv.symm (finProdFinEquiv (k, j))).2 = _
  rw [Equiv.symm_apply_apply]

/-- After `k` token scatters: the batch that far, the pieces of the others. -/
def stT (k : ℕ) : sProp 𝕄 :=
  iprop(Batch EC (thr d L) (.dma cc0_scratch8.sem) (default : HIx 1) N1 (allT A γ) (k * 128) 0 ∗ bigSep (pending k) (pieceT A γ))

theorem numel_pos : 0 < S128x128.numel := by decide

theorem delT_at (k : ℕ) (hk : k < 12) (j : Fin 128) :
    delT A γ ⟨k, hk⟩ j ⊢ allT A γ ⟨k * 128 + j.val, by have := j.isLt; omega⟩ := by
  unfold allT
  refine Entails.of_eq ?_
  have h1 : (⟨k * 128 + j.val, by have := j.isLt; omega⟩ : Fin (12 * 128)).divNat = ⟨k, hk⟩ := Fin.ext (by
    have := j.isLt
    show (k * 128 + j.val) / 128 = k; omega)
  have h2 : (⟨k * 128 + j.val, by have := j.isLt; omega⟩ : Fin (12 * 128)).modNat = j := Fin.ext (by
    have := j.isLt
    show (k * 128 + j.val) % 128 = j.val; omega)
  rw [h1, h2]

theorem step_le (k : ℕ) (hk : k < 12) : k * 128 + 128 ≤ 12 * 128 := by omega

set_option maxHeartbeats 1000000 in
/-- Token scatter `k` started. -/
theorem scatterT {α : Type} {Q : α → sProp 𝕄} (k : ℕ) (hk : k < 12) {hn : S128.numel = S128x128.size hg.axis'}
    {hp : (thr d L).2.kind = .scVector} {he : EltTy.bits .f32 = 32} {hsp : Space.hbm = .hbm ∨ Space.hbm = .shared} {hr : S100000x128.StreamRows 0}
    {kont : PUnit → Prog (TpuEff nD τ sig (Elt F) Λ₀ (thr d L).2) α} :
    iprop(wInv A γ κ ∗ stT A γ k)
      ⊢ iprop((stT A γ (k + 1) -∗ wp frame (wpE (defs₀ (F := F)) 𝒱₀ (thr d L) none) Set.univ (kont ⟨⟩) Q)
        -∗ wp frame (wpE (defs₀ (F := F)) 𝒱₀ (thr d L) none) Set.univ
            (SparseCore.enqueueIndirectScatter hp tkV oA hg (rowT tdV k hk) hn cc0_scratch8.sem he hsp hr >>= kont) Q) := by
  have H := wp_scatterBatch (E := Ent) EC 𝒱₀ (thr d L) none (Q := Q) (hp := hp) (he := he) (hn := hn) (hr := hr) (hsp := hsp) (k := kont)
    (defs := defs₀ (F := F)) (sem := cc0_scratch8.sem) (default : HIx 1) N1 numel_pos (A.htd k hk) (r := rowOfEnt A) (S := outSet A) (G := A.G)
    (γ := γ) (κ := κ) (fun j => .inl (⟨k, hk⟩, j)) (fun j => rfl) (fun j => subset_outSet A _) (fun j => A.payT k hk j) (hN1)
    (D := allT A γ) (k₀ := k * 128) (u := 0) (step_le k hk) (Nat.zero_le _) (fun j => delT_at A γ k hk j)
  unfold stT
  rw [Transfers.bigSep_pending_step (pieceT A γ) k hk]
  unfold pieceT
  iintro ⟨#Hw, HB, ⟨Hs, Ho, Hc⟩, Hrest⟩ Hk
  iapply H $$ [HB Hs Ho Hc]
  · isplitl [Hs]; · iexact Hs
    isplitl [Ho]; · iexact Ho
    isplitr; · iexact Hw
    isplitl [Hc]; · iexact Hc
    iexact HB
  iintro HB
  iapply Hk
  isplitl [HB]
  · rw [show (k + 1) * 128 = k * 128 + 128 by omega]; iexact HB
  iexact Hrest

/-! ## What a tile still owes, and its waits -/

variable (O : CellTallies nD τ sig (HIx 1)) (W : Waits sig (HIx 1))

/-- What the tile owes, `W` its waits on entry: since then it has waited on its own transfers only. -/
def owing : sProp 𝕄 := iprop(∃ W', ⌜∀ p ∈ W', p ∈ W ∨ p.2 = none⌝ ∗ owes (thr d L) O W')

theorem owing_intro {W' : Waits sig (HIx 1)} (sm : SemLoc sig) (h : ∀ p ∈ W', p ∈ W ∨ p.2 = none) :
    owes (thr d L) O (insert (sm, (default : HIx 1)) W') ⊢ owing (F := F) (d := d) (L := L) O W := by
  unfold owing
  iintro H
  iexists _; isplitr
  swap; · iexact H
  ipureintro; intro p hp
  rcases Finset.mem_insert.mp hp with hp | hp
  · exact .inr (hp ▸ rfl)
  exact h p hp

/-- The evidence that the tile may wait on any of its own transfers. -/
abbrev mayW : sProp 𝕄 := Transfers.MayWaits (thr d L) (default : HIx 1) O

/-- A wait of a scatter's credit is a wait naming the row buffer. -/
theorem waitS_eq {α : Type} (sem : DmaSem sig) (R : Memref sig .scVector .vmem S128x128 .f32) {h1 h2}
    (kont : PUnit → Prog (TpuEff nD τ sig (Elt F) Λ₀ (thr d L).2) α) :
    ((SparseCore.waitIndirectScatter (p := (thr d L).2) sem R oA h1 h2 : Prog (TpuEff nD τ sig (Elt F) Λ₀ (thr d L).2) PUnit) >>= kont) = .op (.waitDma2 sem oA R h2 h1) kont := rfl

/-- A wait of a gather's credit is a wait naming the row buffer. -/
theorem waitG_eq {α : Type} (sem : DmaSem sig) (R : Memref sig .scVector .vmem S128x128 .f32) {h1 h2}
    (kont : PUnit → Prog (TpuEff nD τ sig (Elt F) Λ₀ (thr d L).2) α) :
    ((SparseCore.waitIndirectGather (p := (thr d L).2) sem xA R h1 h2 : Prog (TpuEff nD τ sig (Elt F) Λ₀ (thr d L).2) PUnit) >>= kont) = .op (.waitDma2 sem xA R h1 h2) kont := rfl

/-- All token scatters started, `m` of their waits done. -/
def waT (m : ℕ) : sProp 𝕄 := Batch EC (thr d L) (.dma cc0_scratch8.sem) (default : HIx 1) N1 (allT A γ) (12 * 128) (m * (128 * N1))

theorem stT_done : stT A γ 12 ⊢ waT A γ 0 := by
  unfold stT waT
  rw [Nat.zero_mul]
  iintro ⟨H, -⟩
  iexact H

theorem waT_le (m : ℕ) (hm : m < 11) : m * (128 * N1) + 128 * N1 ≤ N1 * (12 * 128) := by
  generalize N1 = N; nlinarith

/-- A token wait before the last. -/
theorem waitT {α : Type} {Q : α → sProp 𝕄} (m : ℕ) (hm : m < 11) {h1 h2}
    {kont : PUnit → Prog (TpuEff nD τ sig (Elt F) Λ₀ (thr d L).2) α} :
    iprop(mayW (d := d) (L := L) O ∗ waT A γ m ∗ owing (d := d) (L := L) O W)
      ⊢ iprop((iprop(waT A γ (m + 1) ∗ owing (d := d) (L := L) O W) -∗ wp frame (wpE (defs₀ (F := F)) 𝒱₀ (thr d L) none) Set.univ (kont ⟨⟩) Q)
        -∗ wp frame (wpE (defs₀ (F := F)) 𝒱₀ (thr d L) none) Set.univ
            (SparseCore.waitIndirectScatter cc0_scratch8.sem tkV oA h1 h2 >>= kont) Q) := by
  rw [waitS_eq]
  unfold owing waT
  iintro ⟨Hmw, HB, %W', %hW', HO⟩ Hk
  have H := fun (W') => Transfers.wp_waitBatchMulO EC 𝒱₀ (thr d L) none (Q := Q) (defs := defs₀ (F := F)) (srcw := oA) (dstw := tkV) (hsrc := h2) (hdst := h1) (sem := cc0_scratch8.sem)
    (k := kont) (default : HIx 1) (N := N1) 128 credit_tk (D := allT A γ) (j := 12 * 128) (u := m * (128 * N1)) (waT_le m hm) (O := O) (W := W')
  iapply (H W') $$ [Hmw HB HO]
  · isplitl [HB]; · iexact HB
    isplitl [HO]; · iexact HO
    iapply (Transfers.MayWaits.elim (SemLoc.dma cc0_scratch8.sem)) $$ Hmw
  iintro ⟨HB, HO⟩
  iapply Hk
  isplitl [HB]
  · rw [show (m + 1) * (128 * N1) = m * (128 * N1) + 128 * N1 from Nat.succ_mul _ _]; iexact HB
  ihave HO' := owing_intro (F := F) (d := d) (L := L) O W (SemLoc.dma cc0_scratch8.sem) hW' $$ HO
  unfold owing; iexact HO'

theorem waT_all : 11 * (128 * N1) + 128 * N1 = N1 * (12 * 128) := by
  generalize N1 = N; omega

/-- The last token wait: every token entry written. -/
theorem waitT_last {α : Type} {Q : α → sProp 𝕄} {h1 h2}
    {kont : PUnit → Prog (TpuEff nD τ sig (Elt F) Λ₀ (thr d L).2) α} :
    iprop(mayW (d := d) (L := L) O ∗ waT A γ 11 ∗ owing (d := d) (L := L) O W)
      ⊢ iprop((iprop(bigSep Finset.univ (backT A γ) ∗ semVal (thr d L, .dma cc0_scratch8.sem) 0 ∗ owing (d := d) (L := L) O W)
          -∗ wp frame (wpE (defs₀ (F := F)) 𝒱₀ (thr d L) none) Set.univ (kont ⟨⟩) Q)
        -∗ wp frame (wpE (defs₀ (F := F)) 𝒱₀ (thr d L) none) Set.univ
            (SparseCore.waitIndirectScatter cc0_scratch8.sem tkV oA h1 h2 >>= kont) Q) := by
  rw [waitS_eq]
  unfold owing waT
  iintro ⟨Hmw, HB, %W', %hW', HO⟩ Hk
  have H := fun (W') => Transfers.wp_waitBatchAllO EC 𝒱₀ (thr d L) none (Q := Q) (defs := defs₀ (F := F)) (srcw := oA) (dstw := tkV) (hsrc := h2) (hdst := h1) (sem := cc0_scratch8.sem)
    (k := kont) (default : HIx 1) (N := N1) credit_tk N1_pos (D := allT A γ) (u := 11 * (128 * N1)) waT_all (O := O) (W := W')
  iapply (H W') $$ [Hmw HB HO]
  · isplitl [HB]; · iexact HB
    isplitl [HO]; · iexact HO
    iapply (Transfers.MayWaits.elim (SemLoc.dma cc0_scratch8.sem)) $$ Hmw
  iintro ⟨HB, Hsem, HO⟩
  iapply Hk
  isplitl [HB]; · iapply (allT_collect A γ) $$ HB
  isplitl [Hsem]; · iexact Hsem
  ihave HO' := owing_intro (F := F) (d := d) (L := L) O W (SemLoc.dma cc0_scratch8.sem) hW' $$ HO
  unfold owing; iexact HO'

/-! ## The gathers -/

variable (q : PosShare TreeShare)
variable (R : Memref sig .scVector .vmem S128x128 .f32) (f : Buf (Elt F) (R.view.loc (thr d L)))

/-- Row `k` of the source list. -/
def csRow (k : Fin 13) : sProp 𝕄 :=
  (rowC csV k.val k.isLt).view.loc (thr d L) ↦[(rowC csV k.val k.isLt).view.set]{fullShare} A.cs

/-- What the gathers read while none is in flight: a share of `x`, the source list; their semaphore at zero. -/
def idleG : sProp 𝕄 :=
  iprop((xA.view.loc (thr d L) ↦[xA.view.set]{q} A.x) ∗ bigSep Finset.univ (csRow A)
    ∗ semVal (thr d L, .dma cc0_scratch6.sem) 0)

/-- A row buffer at some contents. -/
def bufAny : sProp 𝕄 := iprop(∃ fd, R.view.loc (thr d L) ↦[R.view.set]{fullShare} fd)

/-- The rows of `x` chunk `k` names. -/
abbrev gath (k : ℕ) (hk : k < 13) : S128x128.Idx → Elt F .f32 :=
  SparseCore.gatherPayload hg (xA.view.read (Elt F) A.x) (SparseCore.rows ((rowC csV k hk).view.read (Elt F) A.cs) rfl (A.hcs k hk))

/-- A row buffer holding the rows of `x` chunk `k` names. -/
def bufAt (k : ℕ) (hk : k < 13) : sProp 𝕄 :=
  R.view.loc (thr d L) ↦[R.view.set]{fullShare} R.view.write (Elt F) f (gath A k hk) Finset.univ

/-- Gather `k` in flight. -/
def flyG (k : ℕ) (hk : k < 13) : sProp 𝕄 :=
  iprop((∃ fd, Transfers.Flight EC (thr d L) (.dma cc0_scratch6.sem) (default : HIx 1) R.view.dmaCredit
      iprop((R.view.loc (thr d L) ↦[R.view.set]{fullShare} R.view.write (Elt F) fd (gath A k hk) Finset.univ)
        ∗ (xA.view.loc (thr d L) ↦[xA.view.set]{q} A.x)
        ∗ ((rowC csV k hk).view.loc (thr d L) ↦[(rowC csV k hk).view.set]{fullShare} A.cs)))
    ∗ bigSep (Finset.univ.erase (⟨k, hk⟩ : Fin 13)) (csRow A))

/-- Gather `k` started. -/
theorem gather {α : Type} {Q : α → sProp 𝕄} (k : ℕ) (hk : k < 13) {hn : S128.numel = S128x128.size hg.axis'}
    {hp : (thr d L).2.kind = .scVector} {hsrc} {he : EltTy.bits .f32 = 32} {hsp : Space.hbm = .hbm ∨ Space.hbm = .shared} {hr : S100000x128.StreamRows 0}
    (hN : ∑ j, (R.slice (S128x128.rowRect hg.axis' j) (S128x128.stride_rowRect hg.axis' j)).view.dmaCredit = R.view.dmaCredit)
    {kont : PUnit → Prog (TpuEff nD τ sig (Elt F) Λ₀ (thr d L).2) α} :
    iprop(idleG A q ∗ bufAny (d := d) (L := L) R)
      ⊢ iprop((flyG A q R k hk -∗ wp frame (wpE (defs₀ (F := F)) 𝒱₀ (thr d L) none) Set.univ (kont ⟨⟩) Q)
        -∗ wp frame (wpE (defs₀ (F := F)) 𝒱₀ (thr d L) none) Set.univ
            (SparseCore.enqueueIndirectGather hp xA R hg (rowC csV k hk) hn cc0_scratch6.sem hsrc he hsp hr >>= kont) Q) := by
  have H := fun fd => SparseCore.wp_indirectGatherLocal (defs := defs₀ (F := F)) EC 𝒱₀ (thr d L) none (Q := Q) (src := xA) (dst := R) (hg := hg) (offs := rowC csV k hk) (hn := hn)
    (sem := cc0_scratch6.sem) (hp := hp) (hsrc := hsrc) (he := he) (hsp := hsp) (hr := hr) (k := kont) (q := q) (qo := fullShare) (fs := A.x) (fd := fd)
    (fo := A.cs) (default : HIx 1) R.view.dmaCredit hN numel_pos (A.hcs k hk)
  unfold idleG bufAny flyG
  iintro ⟨⟨Hx, Hcs, Hs⟩, %fd, HR⟩ Hk
  ihave Hcs' := (Entails.of_eq (bigSep_take (csRow A) (Finset.mem_univ (⟨k, hk⟩ : Fin 13)))) $$ Hcs
  icases Hcs' with ⟨Hrow, Hrest⟩
  iapply (H fd) $$ [Hx HR Hs Hrow]
  · isplitl [Hx]; · iexact Hx
    isplitl [HR]; · iexact HR
    isplitl [Hrow]; · unfold csRow; iexact Hrow
    iexact Hs
  iintro HF
  iapply Hk
  isplitl [HF]
  · iexists fd; iexact HF
  iexact Hrest

/-- Gather `k` waited for. -/
theorem waitG {α : Type} {Q : α → sProp 𝕄} (k : ℕ) (hk : k < 13) {h1 h2}
    {kont : PUnit → Prog (TpuEff nD τ sig (Elt F) Λ₀ (thr d L).2) α} :
    iprop(mayW (d := d) (L := L) O ∗ flyG A q R k hk ∗ owing (d := d) (L := L) O W)
      ⊢ iprop((iprop(idleG A q ∗ bufAt A R f k hk ∗ owing (d := d) (L := L) O W) -∗ wp frame (wpE (defs₀ (F := F)) 𝒱₀ (thr d L) none) Set.univ (kont ⟨⟩) Q)
        -∗ wp frame (wpE (defs₀ (F := F)) 𝒱₀ (thr d L) none) Set.univ
            (SparseCore.waitIndirectGather cc0_scratch6.sem xA R h1 h2 >>= kont) Q) := by
  rw [waitG_eq]
  unfold owing flyG
  iintro ⟨Hmw, ⟨⟨%fd, HF⟩, Hrest⟩, %W', %hW', HO⟩ Hk
  have H := fun W' D => Transfers.wp_waitLocalO EC 𝒱₀ (thr d L) none (Q := Q) (defs := defs₀ (F := F)) (srcw := xA) (dstw := R) (hsrc := h1) (hdst := h2) (sem := cc0_scratch6.sem)
    (k := kont) (default : HIx 1) rfl (D := D) (O := O) (W := W')
  iapply (H W' _) $$ [Hmw HF HO]
  · isplitl [HF]; · iexact HF
    isplitl [HO]; · iexact HO
    iapply (Transfers.MayWaits.elim (SemLoc.dma cc0_scratch6.sem)) $$ Hmw
  iintro ⟨⟨HR, Hx, Hrow⟩, Hsem, HO⟩
  iapply Hk
  unfold idleG bufAt
  isplitl [Hx Hrow Hrest Hsem]
  · isplitl [Hx]; · iexact Hx
    isplitl [Hrow Hrest]
    · iapply (Entails.of_eq (bigSep_take (csRow A) (Finset.mem_univ (⟨k, hk⟩ : Fin 13))).symm)
      isplitl [Hrow]; · unfold csRow; iexact Hrow
      iexact Hrest
    iexact Hsem
  isplitl [HR]
  · iapply (Entails.of_eq (View.pointsTo_write_univ_congr (thr d L) R.view fullShare fd f (gath A k hk))) $$ HR
  ihave HO' := owing_intro (F := F) (d := d) (L := L) O W (SemLoc.dma cc0_scratch6.sem) hW' $$ HO
  unfold owing; iexact HO'

/-! ## The scatters of gathered rows -/

/-- What scatter `k` takes beside the row buffer: its row of the target list, its entries' counters. -/
def pieceC (k : Fin 13) : sProp 𝕄 :=
  iprop(((rowC cdV k.val k.isLt).view.loc (thr d L) ↦[(rowC cdV k.val k.isLt).view.set]{fullShare} A.cd)
    ∗ bigSep Finset.univ fun j : Fin 128 => c0 (F := F) γ (.inr (k, j)))

/-- What it gives back. -/
def backC (k : Fin 13) : sProp 𝕄 :=
  iprop(((rowC cdV k.val k.isLt).view.loc (thr d L) ↦[(rowC cdV k.val k.isLt).view.set]{fullShare} A.cd)
    ∗ bigSep Finset.univ fun j : Fin 128 => c1 (F := F) γ (.inr (k, j)))

/-- Delivery `j` of scatter `k`, from a row buffer. -/
def delC (k : Fin 13) (j : Fin 128) : sProp 𝕄 :=
  entryDone (F := F) (s₀ := S100000x128) EC (thr d L) R (rowC cdV k.val k.isLt) hg rfl fullShare fullShare
    (R.view.write (Elt F) f (gath A k.val k.isLt) Finset.univ) A.cd (γ (.inr (k, j))) j

instance (k : Fin 13) (j : Fin 128) : Storable (upEmb : UEmb _ 𝕄) (delC A γ R f k j) :=
  entryDone_storable (F := F) (s₀ := S100000x128) EC (thr d L) R (rowC cdV k.val k.isLt) hg rfl fullShare fullShare
    (R.view.write (Elt F) f (gath A k.val k.isLt) Finset.univ) A.cd (γ (.inr (k, j))) j

theorem delC_collect (k : Fin 13) : bigSep Finset.univ (delC A γ R f k) ⊢ iprop(backC A γ k ∗ bufAny (d := d) (L := L) R) := by
  have H := entries_collect (F := F) (s₀ := S100000x128) EC (thr d L) (src := R) (offs := rowC cdV k.val k.isLt) (hg := hg) (hn := rfl)
    (q := fullShare) (qo := fullShare) (fs := R.view.write (Elt F) f (gath A k.val k.isLt) Finset.univ) (fo := A.cd) (γ := fun j => γ (.inr (k, j)))
  refine BIBase.Entails.trans H ?_
  unfold backC bufAny
  iintro ⟨Hc, Ho, Hs⟩
  isplitl [Hc Ho]
  · isplitl [Ho]; · iexact Ho
    iexact Hc
  iexists _; iexact Hs

/-- Scatter `k` in flight, alone on its semaphore. -/
def flyS (k : ℕ) (hk : k < 13) : sProp 𝕄 :=
  Batch EC (thr d L) (.dma cc0_scratch7.sem) (default : HIx 1) N1 (delC A γ R f ⟨k, hk⟩) 128 0

/-- A scatter's start, the batch on its semaphore any one with room for its deliveries from `k₀` on. -/
theorem scatter_into {α : Type} {Q : α → sProp 𝕄} (k : ℕ) (hk : k < 13) {n : ℕ} (D' : Fin n → sProp 𝕄) (k₀ : ℕ) (hk₀ : k₀ + 128 ≤ n)
    (hD : ∀ j : Fin 128, delC A γ R f ⟨k, hk⟩ j ⊢ D' ⟨k₀ + j.val, by have := j.isLt; omega⟩) {hn : S128.numel = S128x128.size hg.axis'}
    {hp : (thr d L).2.kind = .scVector} {he : EltTy.bits .f32 = 32} {hsp : Space.hbm = .hbm ∨ Space.hbm = .shared} {hr : S100000x128.StreamRows 0}
    {kont : PUnit → Prog (TpuEff nD τ sig (Elt F) Λ₀ (thr d L).2) α} :
    iprop(wInv A γ κ ∗ bufAt A R f k hk ∗ bigSep (pending k) (pieceC A γ) ∗ Batch EC (thr d L) (.dma cc0_scratch7.sem) (default : HIx 1) N1 D' k₀ 0)
      ⊢ iprop((iprop(Batch EC (thr d L) (.dma cc0_scratch7.sem) (default : HIx 1) N1 D' (k₀ + 128) 0 ∗ bigSep (pending (k + 1)) (pieceC A γ))
          -∗ wp frame (wpE (defs₀ (F := F)) 𝒱₀ (thr d L) none) Set.univ (kont ⟨⟩) Q)
        -∗ wp frame (wpE (defs₀ (F := F)) 𝒱₀ (thr d L) none) Set.univ
            (SparseCore.enqueueIndirectScatter hp R oA hg (rowC cdV k hk) hn cc0_scratch7.sem he hsp hr >>= kont) Q) := by
  have H := wp_scatterBatch (E := Ent) EC 𝒱₀ (thr d L) none (Q := Q) (src := R) (hp := hp) (he := he) (hn := hn) (hr := hr) (hsp := hsp) (k := kont)
    (q := fullShare) (fs := R.view.write (Elt F) f (gath A k hk) Finset.univ)
    (defs := defs₀ (F := F)) (sem := cc0_scratch7.sem) (default : HIx 1) N1 numel_pos (A.hcd k hk) (r := rowOfEnt A) (S := outSet A) (G := A.G)
    (γ := γ) (κ := κ) (fun j => .inr (⟨k, hk⟩, j)) (fun j => rfl) (fun j => subset_outSet A _) (fun j => A.payC k hk j R f) (hN1)
    (D := D') (k₀ := k₀) (u := 0) hk₀ (Nat.zero_le _) (fun j => hD j)
  rw [Transfers.bigSep_pending_step (pieceC A γ) k hk]
  unfold pieceC bufAt
  iintro ⟨#Hw, Hs, ⟨⟨Ho, Hc⟩, Hrest⟩, HB⟩ Hk
  iapply H $$ [HB Hs Ho Hc]
  · isplitl [Hs]; · iexact Hs
    isplitl [Ho]; · iexact Ho
    isplitr; · iexact Hw
    isplitl [Hc]; · iexact Hc
    iexact HB
  iintro HB
  iapply Hk
  isplitl [HB]; · iexact HB
  iexact Hrest

/-- Scatter `k` started, alone on its semaphore. -/
theorem scatterC {α : Type} {Q : α → sProp 𝕄} (k : ℕ) (hk : k < 13) {hn : S128.numel = S128x128.size hg.axis'}
    {hp : (thr d L).2.kind = .scVector} {he : EltTy.bits .f32 = 32} {hsp : Space.hbm = .hbm ∨ Space.hbm = .shared} {hr : S100000x128.StreamRows 0}
    {kont : PUnit → Prog (TpuEff nD τ sig (Elt F) Λ₀ (thr d L).2) α} :
    iprop(wInv A γ κ ∗ bufAt A R f k hk ∗ bigSep (pending k) (pieceC A γ) ∗ semVal (thr d L, .dma cc0_scratch7.sem) 0)
      ⊢ iprop((iprop(flyS A γ R f k hk ∗ bigSep (pending (k + 1)) (pieceC A γ))
          -∗ wp frame (wpE (defs₀ (F := F)) 𝒱₀ (thr d L) none) Set.univ (kont ⟨⟩) Q)
        -∗ wp frame (wpE (defs₀ (F := F)) 𝒱₀ (thr d L) none) Set.univ
            (SparseCore.enqueueIndirectScatter hp R oA hg (rowC cdV k hk) hn cc0_scratch7.sem he hsp hr >>= kont) Q) := by
  have H := scatter_into A γ κ R f (Q := Q) k hk (delC A γ R f ⟨k, hk⟩) 0 (by omega) (fun j => by
    refine Entails.of_eq (congrArg _ (Fin.ext ?_)); exact (Nat.zero_add _).symm) (hn := hn) (hp := hp) (he := he) (hsp := hsp) (hr := hr) (kont := kont)
  iintro ⟨#Hw, Hs, Hp, Hsem⟩ Hk
  imod (Transfers.batch_alloc' EC (thr d L) (default : HIx 1) N1 (delC A γ R f ⟨k, hk⟩) (sm := .dma cc0_scratch7.sem) (E := Set.univ)) $$ Hsem with HB
  iapply H $$ [Hs Hp HB]
  · isplitr; · iexact Hw
    isplitl [Hs]; · iexact Hs
    isplitl [Hp]; · iexact Hp
    iexact HB
  iintro ⟨HB, Hp⟩
  iapply Hk
  isplitl [HB]; · unfold flyS; iexact HB
  iexact Hp

/-- Scatter `k`, alone on its semaphore, waited for. -/
theorem waitS {α : Type} {Q : α → sProp 𝕄} (k : ℕ) (hk : k < 13) (hcr : R.view.dmaCredit = 128 * N1) {h1 h2}
    {kont : PUnit → Prog (TpuEff nD τ sig (Elt F) Λ₀ (thr d L).2) α} :
    iprop(mayW (d := d) (L := L) O ∗ flyS A γ R f k hk ∗ owing (d := d) (L := L) O W)
      ⊢ iprop((iprop((backC A γ ⟨k, hk⟩ ∗ bufAny (d := d) (L := L) R) ∗ semVal (thr d L, .dma cc0_scratch7.sem) 0 ∗ owing (d := d) (L := L) O W)
          -∗ wp frame (wpE (defs₀ (F := F)) 𝒱₀ (thr d L) none) Set.univ (kont ⟨⟩) Q)
        -∗ wp frame (wpE (defs₀ (F := F)) 𝒱₀ (thr d L) none) Set.univ
            (SparseCore.waitIndirectScatter cc0_scratch7.sem R oA h1 h2 >>= kont) Q) := by
  rw [waitS_eq]
  unfold owing flyS
  iintro ⟨Hmw, HB, %W', %hW', HO⟩ Hk
  have H := fun (W') => Transfers.wp_waitBatchAllO EC 𝒱₀ (thr d L) none (Q := Q) (defs := defs₀ (F := F)) (srcw := oA) (dstw := R) (hsrc := h2) (hdst := h1) (sem := cc0_scratch7.sem)
    (k := kont) (default : HIx 1) (N := N1) hcr N1_pos (D := delC A γ R f ⟨k, hk⟩) (u := 0) (by rw [Nat.zero_add, Nat.mul_comm]) (O := O) (W := W')
  iapply (H W') $$ [Hmw HB HO]
  · isplitl [HB]; · iexact HB
    isplitl [HO]; · iexact HO
    iapply (Transfers.MayWaits.elim (SemLoc.dma cc0_scratch7.sem)) $$ Hmw
  iintro ⟨HB, Hsem, HO⟩
  iapply Hk
  isplitl [HB]; · iapply (delC_collect A γ R f ⟨k, hk⟩) $$ HB
  isplitl [Hsem]; · iexact Hsem
  ihave HO' := owing_intro (F := F) (d := d) (L := L) O W (SemLoc.dma cc0_scratch7.sem) hW' $$ HO
  unfold owing; iexact HO'

/-! ## The last two scatters, outstanding together -/

variable (R' : Memref sig .scVector .vmem S128x128 .f32) (f' : Buf (Elt F) (R'.view.loc (thr d L)))

/-- The deliveries of two scatters, one after the other. -/
def delTwo (k k' : Fin 13) (t : Fin 256) : sProp 𝕄 :=
  if h : t.val < 128 then delC A γ R f k ⟨t.val, h⟩ else delC A γ R' f' k' ⟨t.val - 128, by have := t.isLt; omega⟩

instance (k k' : Fin 13) (t : Fin 256) : Storable (upEmb : UEmb _ 𝕄) (delTwo A γ R f R' f' k k' t) := by
  unfold delTwo; split <;> infer_instance

theorem delTwo_collect (k k' : Fin 13) : bigSep Finset.univ (delTwo A γ R f R' f' k k')
    ⊢ iprop((backC A γ k ∗ bufAny (d := d) (L := L) R) ∗ (backC A γ k' ∗ bufAny (d := d) (L := L) R')) := by
  rw [bigSep_univ_equiv (finSumFinEquiv (m := 128) (n := 128)), bigSep_univ_sum]
  have h1 : ∀ j : Fin 128, delTwo A γ R f R' f' k k' (finSumFinEquiv (m := 128) (n := 128) (Sum.inl j)) = delC A γ R f k j := fun j => by
    show delTwo A γ R f R' f' k k' (Fin.castAdd 128 j : Fin (128 + 128)) = _
    unfold delTwo
    rw [dif_pos (show (Fin.castAdd 128 j).val < 128 from j.isLt)]; rfl
  have h2 : ∀ j : Fin 128, delTwo A γ R f R' f' k k' (finSumFinEquiv (m := 128) (n := 128) (Sum.inr j)) = delC A γ R' f' k' j := fun j => by
    show delTwo A γ R f R' f' k k' (Fin.natAdd 128 j) = _
    unfold delTwo
    rw [dif_neg (show ¬ (Fin.natAdd 128 j).val < 128 from by simp)]
    exact congrArg _ (Fin.ext (Nat.add_sub_cancel_left _ _))
  rw [BI.bigSep_congr fun j _ => h1 j, BI.bigSep_congr fun j _ => h2 j]
  show iprop(bigSep Finset.univ (delC A γ R f k) ∗ bigSep Finset.univ (delC A γ R' f' k')) ⊢ _
  iintro ⟨H1, H2⟩
  isplitl [H1]
  · iapply (delC_collect A γ R f k) $$ H1
  · iapply (delC_collect A γ R' f' k') $$ H2

/-- The two scatters' batch: `n` of its deliveries issued, `u` of its credit waited for. -/
def flyTwo (k k' : Fin 13) (n u : ℕ) : sProp 𝕄 :=
  Batch EC (thr d L) (.dma cc0_scratch7.sem) (default : HIx 1) N1 (delTwo A γ R f R' f' k k') n u

/-- The first of the two started. -/
theorem scatterTwo_fst {α : Type} {Q : α → sProp 𝕄} (k : ℕ) (hk : k < 13) (k' : Fin 13) {hn : S128.numel = S128x128.size hg.axis'}
    {hp : (thr d L).2.kind = .scVector} {he : EltTy.bits .f32 = 32} {hsp : Space.hbm = .hbm ∨ Space.hbm = .shared} {hr : S100000x128.StreamRows 0}
    {kont : PUnit → Prog (TpuEff nD τ sig (Elt F) Λ₀ (thr d L).2) α} :
    iprop(wInv A γ κ ∗ bufAt A R f k hk ∗ bigSep (pending k) (pieceC A γ) ∗ semVal (thr d L, .dma cc0_scratch7.sem) 0)
      ⊢ iprop((iprop(flyTwo A γ R f R' f' ⟨k, hk⟩ k' 128 0 ∗ bigSep (pending (k + 1)) (pieceC A γ))
          -∗ wp frame (wpE (defs₀ (F := F)) 𝒱₀ (thr d L) none) Set.univ (kont ⟨⟩) Q)
        -∗ wp frame (wpE (defs₀ (F := F)) 𝒱₀ (thr d L) none) Set.univ
            (SparseCore.enqueueIndirectScatter hp R oA hg (rowC cdV k hk) hn cc0_scratch7.sem he hsp hr >>= kont) Q) := by
  have H := scatter_into A γ κ R f (Q := Q) k hk (delTwo A γ R f R' f' ⟨k, hk⟩ k') 0 (by omega) (fun j => by
    refine Entails.of_eq ?_
    unfold delTwo
    rw [dif_pos (show 0 + j.val < 128 by have := j.isLt; omega)]
    exact congrArg _ (Fin.ext (Nat.zero_add _).symm)) (hn := hn) (hp := hp) (he := he) (hsp := hsp) (hr := hr) (kont := kont)
  iintro ⟨#Hw, Hs, Hp, Hsem⟩ Hk
  imod (Transfers.batch_alloc' EC (thr d L) (default : HIx 1) N1 (delTwo A γ R f R' f' ⟨k, hk⟩ k') (sm := .dma cc0_scratch7.sem) (E := Set.univ)) $$ Hsem with HB
  iapply H $$ [Hs Hp HB]
  · isplitr; · iexact Hw
    isplitl [Hs]; · iexact Hs
    isplitl [Hp]; · iexact Hp
    iexact HB
  iintro ⟨HB, Hp⟩
  iapply Hk
  isplitl [HB]; · unfold flyTwo; iexact HB
  iexact Hp

/-- The second of the two started. -/
theorem scatterTwo_snd {α : Type} {Q : α → sProp 𝕄} (k : Fin 13) (k' : ℕ) (hk' : k' < 13) {hn : S128.numel = S128x128.size hg.axis'}
    {hp : (thr d L).2.kind = .scVector} {he : EltTy.bits .f32 = 32} {hsp : Space.hbm = .hbm ∨ Space.hbm = .shared} {hr : S100000x128.StreamRows 0}
    {kont : PUnit → Prog (TpuEff nD τ sig (Elt F) Λ₀ (thr d L).2) α} :
    iprop(wInv A γ κ ∗ bufAt A R' f' k' hk' ∗ bigSep (pending k') (pieceC A γ) ∗ flyTwo A γ R f R' f' k ⟨k', hk'⟩ 128 0)
      ⊢ iprop((iprop(flyTwo A γ R f R' f' k ⟨k', hk'⟩ 256 0 ∗ bigSep (pending (k' + 1)) (pieceC A γ))
          -∗ wp frame (wpE (defs₀ (F := F)) 𝒱₀ (thr d L) none) Set.univ (kont ⟨⟩) Q)
        -∗ wp frame (wpE (defs₀ (F := F)) 𝒱₀ (thr d L) none) Set.univ
            (SparseCore.enqueueIndirectScatter hp R' oA hg (rowC cdV k' hk') hn cc0_scratch7.sem he hsp hr >>= kont) Q) := by
  have H := scatter_into A γ κ R' f' (Q := Q) k' hk' (delTwo A γ R f R' f' k ⟨k', hk'⟩) 128 (by omega) (fun j => by
    refine Entails.of_eq ?_
    unfold delTwo
    rw [dif_neg (show ¬ 128 + j.val < 128 by omega)]
    exact congrArg _ (Fin.ext (Nat.add_sub_cancel_left _ _).symm)) (hn := hn) (hp := hp) (he := he) (hsp := hsp) (hr := hr) (kont := kont)
  unfold flyTwo
  exact H

theorem two_le : 0 + 128 * N1 ≤ N1 * 256 := by generalize N1 = N; omega
theorem two_all : 128 * N1 + 128 * N1 = N1 * 256 := by generalize N1 = N; omega

/-- The first wait of the two, by the amount of one scatter; which of the two buffers it names makes no difference. -/
theorem waitTwo_fst {α : Type} {Q : α → sProp 𝕄} (k k' : Fin 13) (Rw : Memref sig .scVector .vmem S128x128 .f32) (hcr : Rw.view.dmaCredit = 128 * N1) {h1 h2}
    {kont : PUnit → Prog (TpuEff nD τ sig (Elt F) Λ₀ (thr d L).2) α} :
    iprop(mayW (d := d) (L := L) O ∗ flyTwo A γ R f R' f' k k' 256 0 ∗ owing (d := d) (L := L) O W)
      ⊢ iprop((iprop(flyTwo A γ R f R' f' k k' 256 (128 * N1) ∗ owing (d := d) (L := L) O W)
          -∗ wp frame (wpE (defs₀ (F := F)) 𝒱₀ (thr d L) none) Set.univ (kont ⟨⟩) Q)
        -∗ wp frame (wpE (defs₀ (F := F)) 𝒱₀ (thr d L) none) Set.univ
            (SparseCore.waitIndirectScatter cc0_scratch7.sem Rw oA h1 h2 >>= kont) Q) := by
  rw [waitS_eq]
  unfold owing flyTwo
  iintro ⟨Hmw, HB, %W', %hW', HO⟩ Hk
  have H := fun (W') => Transfers.wp_waitBatchMulO EC 𝒱₀ (thr d L) none (Q := Q) (defs := defs₀ (F := F)) (srcw := oA) (dstw := Rw) (hsrc := h2) (hdst := h1) (sem := cc0_scratch7.sem)
    (k := kont) (default : HIx 1) (N := N1) 128 hcr (D := delTwo A γ R f R' f' k k') (j := 256) (u := 0) two_le (O := O) (W := W')
  iapply (H W') $$ [Hmw HB HO]
  · isplitl [HB]; · iexact HB
    isplitl [HO]; · iexact HO
    iapply (Transfers.MayWaits.elim (SemLoc.dma cc0_scratch7.sem)) $$ Hmw
  iintro ⟨HB, HO⟩
  iapply Hk
  isplitl [HB]; · rw [Nat.zero_add]; iexact HB
  ihave HO' := owing_intro (F := F) (d := d) (L := L) O W (SemLoc.dma cc0_scratch7.sem) hW' $$ HO
  unfold owing; iexact HO'

/-- The second wait of the two. -/
theorem waitTwo_snd {α : Type} {Q : α → sProp 𝕄} (k k' : Fin 13) (Rw : Memref sig .scVector .vmem S128x128 .f32) (hcr : Rw.view.dmaCredit = 128 * N1) {h1 h2}
    {kont : PUnit → Prog (TpuEff nD τ sig (Elt F) Λ₀ (thr d L).2) α} :
    iprop(mayW (d := d) (L := L) O ∗ flyTwo A γ R f R' f' k k' 256 (128 * N1) ∗ owing (d := d) (L := L) O W)
      ⊢ iprop((iprop(((backC A γ k ∗ bufAny (d := d) (L := L) R) ∗ (backC A γ k' ∗ bufAny (d := d) (L := L) R'))
            ∗ semVal (thr d L, .dma cc0_scratch7.sem) 0 ∗ owing (d := d) (L := L) O W)
          -∗ wp frame (wpE (defs₀ (F := F)) 𝒱₀ (thr d L) none) Set.univ (kont ⟨⟩) Q)
        -∗ wp frame (wpE (defs₀ (F := F)) 𝒱₀ (thr d L) none) Set.univ
            (SparseCore.waitIndirectScatter cc0_scratch7.sem Rw oA h1 h2 >>= kont) Q) := by
  rw [waitS_eq]
  unfold owing flyTwo
  iintro ⟨Hmw, HB, %W', %hW', HO⟩ Hk
  have H := fun (W') => Transfers.wp_waitBatchAllO EC 𝒱₀ (thr d L) none (Q := Q) (defs := defs₀ (F := F)) (srcw := oA) (dstw := Rw) (hsrc := h2) (hdst := h1) (sem := cc0_scratch7.sem)
    (k := kont) (default : HIx 1) (N := N1) hcr N1_pos (D := delTwo A γ R f R' f' k k') (u := 128 * N1) two_all (O := O) (W := W')
  iapply (H W') $$ [Hmw HB HO]
  · isplitl [HB]; · iexact HB
    isplitl [HO]; · iexact HO
    iapply (Transfers.MayWaits.elim (SemLoc.dma cc0_scratch7.sem)) $$ Hmw
  iintro ⟨HB, Hsem, HO⟩
  iapply Hk
  isplitl [HB]; · iapply (delTwo_collect A γ R f R' f' k k') $$ HB
  isplitl [Hsem]; · iexact Hsem
  ihave HO' := owing_intro (F := F) (d := d) (L := L) O W (SemLoc.dma cc0_scratch7.sem) hW' $$ HO
  unfold owing; iexact HO'

end Steps

end Cert.Proof.KernelTile

end
-- ==== Proof.TileData.lean ====
/-
  What a tile's fetched lists and rows are, in terms of the arrays: the words of the three tables at the tile's number,
  the rows of the token block and of `x`.
-/
module

public import proofs.«01_k».proof.Proof.Tile
public import Idealize.ShloMosaic.Lib.ValueLayout

@[expose] public section

noncomputable section

namespace Cert.Proof.KernelTile

open Cert.Kernel Cert.Kernel.Gen
open Cert.Proof.ScatterBatch

open Idealize.ShloMosaic
open Idealize.ShloMosaic.SparseCore (S V T)
open Idealize.ShloMosaic.ValueIdx (ix1 ix2 ix3 eq_ix1 eq_ix2 eq_ix3)

variable {F : FTy → Type}

/-! ## Indices through the views -/

/-- An index carried along an equality of shapes keeps its coordinates. -/
theorem idxEquiv_val {s s' : Shape} (h : s = s') (x : s.Idx) (b : Fin s.rank) :
    ((Shape.idxEquiv h x) (b.cast (congrArg Shape.rank h))).val = (x b).val := by
  subst h; rfl

variable (d : Dev nD) (L : grid0.Coords)

/-- A row payload of a scatter, by coordinates. -/
theorem payload_at (R : Memref sig .scVector .vmem S128x128 .f32) (fs : Buf (Elt F) (R.view.loc (thr d L))) (j : Fin 128)
    (y : (S100000x128.rowShape hg.axis).Idx) (c : Fin 128) (hc : (y (1 : Fin 2)).val = c.val) :
    SparseCore.scatterRowPayload (thr d L) R hg fs j y = R.view.read (Elt F) fs (ix2 j c) := by
  have e : ∀ z : S128x128.Idx, z = ix2 j c →
      R.view.read (Elt F) fs z = R.view.read (Elt F) fs (ix2 j c) := fun z hz => congrArg _ hz
  refine e ((S128x128.rowRect hg.axis' j).emb ((Shape.idxEquiv hg.rowShape_eq).symm y)) ?_
  have h1 : ∀ b, (((Shape.idxEquiv hg.rowShape_eq).symm y) b).val = (y (b.cast rfl)).val := fun b => by
    have := idxEquiv_val hg.rowShape_eq.symm y (b.cast rfl)
    exact this
  funext b
  refine Fin.ext ?_
  match b with
  | 0 =>
    have h0 : (y (0 : Fin 2)).val < 1 := (y (0 : Fin 2)).isLt
    have h2 := h1 (0 : Fin 2)
    show j.val + 1 * (((Shape.idxEquiv hg.rowShape_eq).symm y) (0 : Fin 2)).val = j.val
    have h3 : (y (Fin.cast rfl (0 : Fin 2))).val = (y (0 : Fin 2)).val := rfl
    omega
  | 1 =>
    have h2 := h1 (1 : Fin 2)
    show 0 + 1 * (((Shape.idxEquiv hg.rowShape_eq).symm y) (1 : Fin 2)).val = c.val
    have h3 : (y (Fin.cast rfl (1 : Fin 2))).val = (y (1 : Fin 2)).val := rfl
    omega

/-- A row of the output read through its view, by coordinates. -/
theorem rowRead_at (G : Buf (Elt F) (oA.view.loc (thr d L))) (r : Fin (S100000x128.size hg.axis))
    (y : (S100000x128.rowShape hg.axis).Idx) (c : Fin 128) (hc : (y (1 : Fin 2)).val = c.val) :
    (rowView (thr d L) oA.view hg.axis r).read (Elt F) G y = (G : S100000x128.Idx → Elt F .f32) (ix2 (r : Fin 100000) c) := by
  have e : ∀ z : S100000x128.Idx, z = ix2 (r : Fin 100000) c →
      (G : S100000x128.Idx → Elt F .f32) z = (G : S100000x128.Idx → Elt F .f32) (ix2 (r : Fin 100000) c) := fun z hz => congrArg _ hz
  refine e ((rowView (thr d L) oA.view hg.axis r).emb y) ?_
  funext b
  refine Fin.ext ?_
  match b with
  | 0 =>
    have h0 : (y (0 : Fin 2)).val < 1 := (y (0 : Fin 2)).isLt
    show 0 + 1 * (r.val + 1 * (y (0 : Fin 2)).val) = r.val
    omega
  | 1 =>
    show 0 + 1 * (0 + 1 * (y (1 : Fin 2)).val) = c.val
    omega

/-- The rows of `x` a gather reads, by coordinates. -/
theorem gather_at (x : Buf (Elt F) (xA.view.loc (thr d L))) (r : Fin (S128x128.size hg.axis') → Fin (S100000x128.size hg.axis)) (j c : Fin 128) :
    SparseCore.gatherPayload hg (xA.view.read (Elt F) x) r (ix2 j c) = (x : S100000x128.Idx → Elt F .f32) (ix2 (r j : Fin 100000) c) := by
  have e : ∀ z : S100000x128.Idx, z = ix2 (r j : Fin 100000) c →
      (x : S100000x128.Idx → Elt F .f32) z = (x : S100000x128.Idx → Elt F .f32) (ix2 (r j : Fin 100000) c) := fun z hz => congrArg _ hz
  refine e (xA.view.emb (hg.idx r (ix2 j c))) ?_
  funext b
  refine Fin.ext ?_
  match b with
  | 0 =>
    show 0 + 1 * (r j).val = (r j).val
    omega
  | 1 =>
    show 0 + 1 * c.val = c.val
    omega

/-- Word `y` of row `k` of a list the fetch landed. -/
theorem rowC_read (M : Memref sig .scVector .vmem S13x128 .i32) (f : Buf (Elt F) (M.view.loc (thr d L))) (X : S13x128.Idx → Elt F .i32)
    (k : ℕ) (hk : k < 13) (j : Fin 128) :
    (rowC M k hk).view.read (Elt F) (M.view.write (Elt F) f X Finset.univ) (ix1 j) = X (ix2 (⟨k, hk⟩ : Fin 13) j) := by
  have e : ∀ z : S13x128.Idx, z = ix2 (⟨k, hk⟩ : Fin 13) j → M.view.read (Elt F) (M.view.write (Elt F) f X Finset.univ) z = X (ix2 (⟨k, hk⟩ : Fin 13) j) :=
    fun z hz => by rw [View.read_write_univ, hz]
  refine e ((Rect.unit (s := S13x128) ![k, 0] S1x128.size (inbC k hk)).emb (Shape.reshapeEquiv squeezes_S1x128_S128.numel_eq (ix1 j))) ?_
  rw [show Shape.reshapeEquiv squeezes_S1x128_S128.numel_eq (ix1 j) = (ix2 (0 : Fin 1) j : S1x128.Idx) from
    Shape.reshapeEquiv_eq_of_rowMajor _ (by
      rw [Shape.rowMajor_val_two, Shape.rowMajor_val_one]
      show 0 * 128 + j.val = j.val
      omega)]
  funext b
  refine Fin.ext ?_
  match b with
  | 0 => show k + 1 * 0 = k; omega
  | 1 => show 0 + 1 * j.val = j.val; omega

theorem rowT_read (M : Memref sig .scVector .vmem S12x128 .i32) (f : Buf (Elt F) (M.view.loc (thr d L))) (X : S12x128.Idx → Elt F .i32)
    (k : ℕ) (hk : k < 12) (j : Fin 128) :
    (rowT M k hk).view.read (Elt F) (M.view.write (Elt F) f X Finset.univ) (ix1 j) = X (ix2 (⟨k, hk⟩ : Fin 12) j) := by
  have e : ∀ z : S12x128.Idx, z = ix2 (⟨k, hk⟩ : Fin 12) j → M.view.read (Elt F) (M.view.write (Elt F) f X Finset.univ) z = X (ix2 (⟨k, hk⟩ : Fin 12) j) :=
    fun z hz => by rw [View.read_write_univ, hz]
  refine e ((Rect.unit (s := S12x128) ![k, 0] S1x128.size (inbT k hk)).emb (Shape.reshapeEquiv squeezes_S1x128_S128.numel_eq (ix1 j))) ?_
  rw [show Shape.reshapeEquiv squeezes_S1x128_S128.numel_eq (ix1 j) = (ix2 (0 : Fin 1) j : S1x128.Idx) from
    Shape.reshapeEquiv_eq_of_rowMajor _ (by
      rw [Shape.rowMajor_val_two, Shape.rowMajor_val_one]
      show 0 * 128 + j.val = j.val
      omega)]
  funext b
  refine Fin.ext ?_
  match b with
  | 0 => show k + 1 * 0 = k; omega
  | 1 => show 0 + 1 * j.val = j.val; omega

/-! ## The tile's blocks of the tables -/

/-- The tile's number among the 32. -/
abbrev wL (L : grid0.Coords) : Fin 32 :=
  ⟨2 * (L 1).val + (L 0).val, by
    have h0 : (L 0).val < 2 := (L 0).isLt
    have h1 : (L 1).val < 16 := (L 1).isLt
    omega⟩

/-- The tile's block of a table, as its fetches address it. -/
abbrev blkC (M : Memref sig .scVector .hbm S32x13x128 .i32) : Memref sig .scVector .hbm S13x128 .i32 :=
  (M.slice (Rect.unit (s := S32x13x128) (k0_off1 L) S1x13x128.size (k0_off1_inb L)) (fun _ => rfl)).squeeze S13x128 squeezes_S1x13x128_S13x128
abbrev blkT (M : Memref sig .scVector .hbm S32x12x128 .i32) : Memref sig .scVector .hbm S12x128 .i32 :=
  (M.slice (Rect.unit (s := S32x12x128) (k0_off2 L) S1x12x128.size (k0_off2_inb L)) (fun _ => rfl)).squeeze S12x128 squeezes_S1x12x128_S12x128

theorem blkC_emb (k : Fin 13) (j : Fin 128) :
    (Rect.unit (s := S32x13x128) (k0_off1 L) S1x13x128.size (k0_off1_inb L)).emb (Shape.reshapeEquiv squeezes_S1x13x128_S13x128.numel_eq (ix2 k j))
      = ix3 (wL L) k j := by
  rw [ValueIdx.reshapeEquiv_ix2_1ab]
  funext b
  refine Fin.ext ?_
  rw [Rect.emb_apply]
  have ho : k0_off1 L b = (![2 * (L 1).val + (L 0).val, 0, 0] : Fin 3 → ℕ) b := congrFun (k0_off1_eq L) b
  show k0_off1 L b + 1 * _ = _
  refine (congrArg (· + 1 * _) ho).trans ?_
  match b with
  | 0 => show 2 * (L 1).val + (L 0).val + 1 * 0 = 2 * (L 1).val + (L 0).val; omega
  | 1 => show 0 + 1 * k.val = k.val; omega
  | 2 => show 0 + 1 * j.val = j.val; omega

theorem blkT_emb (k : Fin 12) (j : Fin 128) :
    (Rect.unit (s := S32x12x128) (k0_off2 L) S1x12x128.size (k0_off2_inb L)).emb (Shape.reshapeEquiv squeezes_S1x12x128_S12x128.numel_eq (ix2 k j))
      = ix3 (wL L) k j := by
  rw [ValueIdx.reshapeEquiv_ix2_1ab]
  funext b
  refine Fin.ext ?_
  rw [Rect.emb_apply]
  have ho : k0_off2 L b = (![2 * (L 1).val + (L 0).val, 0, 0] : Fin 3 → ℕ) b := congrFun (k0_off2_eq L) b
  show k0_off2 L b + 1 * _ = _
  refine (congrArg (· + 1 * _) ho).trans ?_
  match b with
  | 0 => show 2 * (L 1).val + (L 0).val + 1 * 0 = 2 * (L 1).val + (L 0).val; omega
  | 1 => show 0 + 1 * k.val = k.val; omega
  | 2 => show 0 + 1 * j.val = j.val; omega

theorem csM_read (f : Buf (Elt F) (csM.view.loc (thr d L))) (k : Fin 13) (j : Fin 128) :
    (blkC L csM).view.read (Elt F) f (ix2 k j) = (f : S32x13x128.Idx → Elt F .i32) (ix3 (wL L) k j) :=
  congrArg (f : S32x13x128.Idx → Elt F .i32) (blkC_emb L k j)
theorem cdM_read (f : Buf (Elt F) (cdM.view.loc (thr d L))) (k : Fin 13) (j : Fin 128) :
    (blkC L cdM).view.read (Elt F) f (ix2 k j) = (f : S32x13x128.Idx → Elt F .i32) (ix3 (wL L) k j) :=
  congrArg (f : S32x13x128.Idx → Elt F .i32) (blkC_emb L k j)
theorem tdM_read (f : Buf (Elt F) (tdM.view.loc (thr d L))) (k : Fin 12) (j : Fin 128) :
    (blkT L tdM).view.read (Elt F) f (ix2 k j) = (f : S32x12x128.Idx → Elt F .i32) (ix3 (wL L) k j) :=
  congrArg (f : S32x12x128.Idx → Elt F .i32) (blkT_emb L k j)

/-- The row a list's word names. -/
theorem rows_val (idx : S128.Idx → Elt F .i32) (h : ∀ y, (idx y).toNat < S100000x128.size hg.axis) (j : Fin (S128x128.size hg.axis')) :
    (SparseCore.rows idx rfl h j).val = (idx (ix1 (j : Fin 128))).toNat := by
  have e : S128.rowMajor.symm (j.cast rfl) = (ix1 (j : Fin 128) : S128.Idx) := by
    rw [Equiv.symm_apply_eq]
    refine Fin.ext ?_
    rw [Shape.rowMajor_val_one]; rfl
  show (idx (S128.rowMajor.symm (j.cast rfl))).toNat = _
  rw [e]

/-! ## The data of a tile -/

/-- What the arrays hold: the tables, the token block, `x`; and what the output is to hold: each copied row that of `x` its
    source names, each token row the token. -/
structure Arrays where
  cs : S32x13x128.Idx → BitVec 32
  cd : S32x13x128.Idx → BitVec 32
  td : S32x12x128.Idx → BitVec 32
  tb : S128x128.Idx → Elt F .f32
  x : S100000x128.Idx → Elt F .f32
  G : S100000x128.Idx → Elt F .f32
  hcs : ∀ w k j, (cs (ix3 w k j)).toNat < 100000
  hcd : ∀ w k j, (cd (ix3 w k j)).toNat < 100000
  htd : ∀ w k j, (td (ix3 w k j)).toNat < 100000
  hGt : ∀ w k j (c : Fin 128), tb (ix2 j c) = G (ix2 (⟨(td (ix3 w k j)).toNat, htd w k j⟩ : Fin 100000) c)
  hGc : ∀ w k j (c : Fin 128), x (ix2 (⟨(cs (ix3 w k j)).toNat, hcs w k j⟩ : Fin 100000) c)
    = G (ix2 (⟨(cd (ix3 w k j)).toNat, hcd w k j⟩ : Fin 100000) c)

variable {d L}

/-- A bound on a list's words, word by word. -/
theorem read_lt (X : S128.Idx → BitVec 32) (h : ∀ j : Fin 128, (X (ix1 j)).toNat < 100000) :
    ∀ y, (X y).toNat < 100000 := fun y => by rw [eq_ix1 y]; exact h _

variable (Ar : Arrays (F := F))

theorem cs_word (fs : Buf (Elt F) (csV.view.loc (thr d L))) (k : ℕ) (hk : k < 13) (j : Fin 128) :
    (rowC csV k hk).view.read (Elt F) (csV.view.write (Elt F) fs ((blkC L csM).view.read (Elt F) (Ar.cs : Buf (Elt F) (csM.view.loc (thr d L)))) Finset.univ) (ix1 j)
      = Ar.cs (ix3 (wL L) ⟨k, hk⟩ j) :=
  (rowC_read d L csV fs _ k hk j).trans (csM_read d L _ _ _)
theorem cd_word (fs : Buf (Elt F) (cdV.view.loc (thr d L))) (k : ℕ) (hk : k < 13) (j : Fin 128) :
    (rowC cdV k hk).view.read (Elt F) (cdV.view.write (Elt F) fs ((blkC L cdM).view.read (Elt F) (Ar.cd : Buf (Elt F) (cdM.view.loc (thr d L)))) Finset.univ) (ix1 j)
      = Ar.cd (ix3 (wL L) ⟨k, hk⟩ j) :=
  (rowC_read d L cdV fs _ k hk j).trans (cdM_read d L _ _ _)
theorem td_word (fs : Buf (Elt F) (tdV.view.loc (thr d L))) (k : ℕ) (hk : k < 12) (j : Fin 128) :
    (rowT tdV k hk).view.read (Elt F) (tdV.view.write (Elt F) fs ((blkT L tdM).view.read (Elt F) (Ar.td : Buf (Elt F) (tdM.view.loc (thr d L)))) Finset.univ) (ix1 j)
      = Ar.td (ix3 (wL L) ⟨k, hk⟩ j) :=
  (rowT_read d L tdV fs _ k hk j).trans (tdM_read d L _ _ _)

/-- A row of the output is equal to a payload once its columns are. -/
theorem row_eq {G : Buf (Elt F) (oA.view.loc (thr d L))} {r : Fin (S100000x128.size hg.axis)} {p : (S100000x128.rowShape hg.axis).Idx → Elt F .f32}
    {r' : Fin 100000} (hr : r.val = r'.val)
    (h : ∀ (y : (S100000x128.rowShape hg.axis).Idx) (c : Fin 128), (y (1 : Fin 2)).val = c.val → p y = (G : S100000x128.Idx → Elt F .f32) (ix2 r' c)) :
    p = (rowView (thr d L) oA.view hg.axis r).read (Elt F) G := by
  funext y
  have hy : (y (1 : Fin 2)).val < 128 := (y (1 : Fin 2)).isLt
  refine (h y ⟨_, hy⟩ rfl).trans (Eq.trans ?_ (rowRead_at d L G r y ⟨_, hy⟩ rfl).symm)
  exact congrArg (fun q : Fin 100000 => (G : S100000x128.Idx → Elt F .f32) (ix2 q _)) (Fin.ext hr.symm)

/-- The tile's data. -/
def mkData (fcs : Buf (Elt F) (csV.view.loc (thr d L))) (fcd : Buf (Elt F) (cdV.view.loc (thr d L))) (ftd : Buf (Elt F) (tdV.view.loc (thr d L)))
    (ftk : Buf (Elt F) (tkV.view.loc (thr d L))) : Data (F := F) d L where
  cs := csV.view.write (Elt F) fcs ((blkC L csM).view.read (Elt F) (Ar.cs : Buf (Elt F) (csM.view.loc (thr d L)))) Finset.univ
  cd := cdV.view.write (Elt F) fcd ((blkC L cdM).view.read (Elt F) (Ar.cd : Buf (Elt F) (cdM.view.loc (thr d L)))) Finset.univ
  td := tdV.view.write (Elt F) ftd ((blkT L tdM).view.read (Elt F) (Ar.td : Buf (Elt F) (tdM.view.loc (thr d L)))) Finset.univ
  tk := tkV.view.write (Elt F) ftk (tbM.view.read (Elt F) (Ar.tb : Buf (Elt F) (tbM.view.loc (thr d L)))) Finset.univ
  x := Ar.x
  G := Ar.G
  hcs := fun k hk => read_lt _ fun j => by rw [cs_word Ar fcs k hk j]; exact Ar.hcs _ _ _
  hcd := fun k hk => read_lt _ fun j => by rw [cd_word Ar fcd k hk j]; exact Ar.hcd _ _ _
  htd := fun k hk => read_lt _ fun j => by rw [td_word Ar ftd k hk j]; exact Ar.htd _ _ _
  payT := fun k hk j => by
    refine row_eq (d := d) (L := L) (r' := ⟨(Ar.td (ix3 (wL L) ⟨k, hk⟩ j)).toNat, Ar.htd _ _ _⟩) ?_ fun y c hc => ?_
    · exact (rows_val _ _ j).trans (congrArg BitVec.toNat (td_word Ar ftd k hk j))
    · refine (payload_at d L tkV _ j y c hc).trans ?_
      rw [View.read_write_univ]
      exact Ar.hGt _ _ _ _
  payC := fun k hk j R fd => by
    refine row_eq (d := d) (L := L) (r' := ⟨(Ar.cd (ix3 (wL L) ⟨k, hk⟩ j)).toNat, Ar.hcd _ _ _⟩) ?_ fun y c hc => ?_
    · exact (rows_val _ _ j).trans (congrArg BitVec.toNat (cd_word Ar fcd k hk j))
    · refine (payload_at d L R _ j y c hc).trans ?_
      rw [View.read_write_univ]
      refine (gather_at d L _ _ j c).trans ?_
      refine Eq.trans ?_ (Ar.hGc (wL L) ⟨k, hk⟩ j c)
      refine congrArg Ar.x (congrArg (fun r : Fin 100000 => (ix2 r c : S100000x128.Idx)) (Fin.ext ?_))
      exact (rows_val _ _ j).trans (congrArg BitVec.toNat (cs_word Ar fcs k hk j))

/-- The row an entry of tile `w` names, by the tables. -/
def rowW (w : Fin 32) : Ent → Fin (S100000x128.size hg.axis)
  | .inl p => ⟨(Ar.td (ix3 w p.1 p.2)).toNat, Ar.htd _ _ _⟩
  | .inr p => ⟨(Ar.cd (ix3 w p.1 p.2)).toNat, Ar.hcd _ _ _⟩

theorem rowOfEnt_mkData (fcs : Buf (Elt F) (csV.view.loc (thr d L))) (fcd : Buf (Elt F) (cdV.view.loc (thr d L))) (ftd : Buf (Elt F) (tdV.view.loc (thr d L)))
    (ftk : Buf (Elt F) (tkV.view.loc (thr d L))) : rowOfEnt (mkData Ar fcs fcd ftd ftk) = rowW Ar (wL L) := by
  funext p
  refine Fin.ext ?_
  match p with
  | .inl p => exact (rows_val _ ((mkData Ar fcs fcd ftd ftk).htd _ p.1.isLt) _).trans (congrArg BitVec.toNat (td_word Ar ftd p.1.val p.1.isLt p.2) :
      _ = (Ar.td (ix3 (wL L) p.1 p.2)).toNat)
  | .inr p => exact (rows_val _ ((mkData Ar fcs fcd ftd ftk).hcd _ p.1.isLt) _).trans (congrArg BitVec.toNat (cd_word Ar fcd p.1.val p.1.isLt p.2) :
      _ = (Ar.cd (ix3 (wL L) p.1 p.2)).toNat)

end Cert.Proof.KernelTile

end
-- ==== Proof.TileBody.lean ====
/-
  The program of one tile, from the arrays it is handed to the arrays it hands back.
-/
module

public import proofs.«01_k».proof.Proof.TileData

@[expose] public section

noncomputable section

namespace Cert.Proof.KernelTile

open Cert.Kernel Cert.Kernel.Gen
open Cert.Proof.ScatterBatch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (pending Batch)

variable {F : FTy → Type} [FloatOps F]

local notation "𝕄" => MT nD τ sig (HIx 1) (Elt F) ℕ UU ℕ

variable {d : Dev nD} {L : grid0.Coords}

/-! ## Lists by rows -/

theorem rowC_set (M : Memref sig .scVector .vmem S13x128 .i32) (k : Fin 13) :
    (rowC M k.val k.isLt).view.set = (M.view.slice (S13x128.rowRect 0 k)).set := by
  show ((M.view.slice (Rect.unit (s := S13x128) ![k.val, 0] S1x128.size (inbC k.val k.isLt))).reshape S128 squeezes_S1x128_S128.numel_eq).set = _
  rw [View.set_reshape]
  have h : Rect.unit (s := S13x128) ![k.val, 0] S1x128.size (inbC k.val k.isLt) = S13x128.rowRect 0 k := by
    unfold Shape.rowRect
    congr 1 <;> funext a
    · match a with
      | 0 => rfl
      | 1 => rfl
    · match a with
      | 0 => rfl
      | 1 => rfl
  exact h ▸ rfl
theorem rowT_set (M : Memref sig .scVector .vmem S12x128 .i32) (k : Fin 12) :
    (rowT M k.val k.isLt).view.set = (M.view.slice (S12x128.rowRect 0 k)).set := by
  show ((M.view.slice (Rect.unit (s := S12x128) ![k.val, 0] S1x128.size (inbT k.val k.isLt))).reshape S128 squeezes_S1x128_S128.numel_eq).set = _
  rw [View.set_reshape]
  have h : Rect.unit (s := S12x128) ![k.val, 0] S1x128.size (inbT k.val k.isLt) = S12x128.rowRect 0 k := by
    unfold Shape.rowRect
    congr 1 <;> funext a
    · match a with
      | 0 => rfl
      | 1 => rfl
    · match a with
      | 0 => rfl
      | 1 => rfl
  exact h ▸ rfl

/-- A list held is its rows held. -/
theorem list_rowsC (M : Memref sig .scVector .vmem S13x128 .i32) (f : Buf (Elt F) (M.view.loc (thr d L))) :
    (M.view.loc (thr d L) ↦[M.view.set]{fullShare} f : sProp 𝕄)
      = bigSep Finset.univ fun k : Fin 13 => (rowC M k.val k.isLt).view.loc (thr d L) ↦[(rowC M k.val k.isLt).view.set]{fullShare} f := by
  rw [pointsTo_rows (c := thr d L) M.view 0 fullShare f]
  refine BI.bigSep_congr fun k _ => ?_
  exact congrArg (fun S => (M.view.loc (thr d L) ↦[S]{fullShare} f : sProp 𝕄)) (rowC_set M k).symm
theorem list_rowsT (M : Memref sig .scVector .vmem S12x128 .i32) (f : Buf (Elt F) (M.view.loc (thr d L))) :
    (M.view.loc (thr d L) ↦[M.view.set]{fullShare} f : sProp 𝕄)
      = bigSep Finset.univ fun k : Fin 12 => (rowT M k.val k.isLt).view.loc (thr d L) ↦[(rowT M k.val k.isLt).view.set]{fullShare} f := by
  rw [pointsTo_rows (c := thr d L) M.view 0 fullShare f]
  refine BI.bigSep_congr fun k _ => ?_
  exact congrArg (fun S => (M.view.loc (thr d L) ↦[S]{fullShare} f : sProp 𝕄)) (rowT_set M k).symm

/-! ## The rounds -/

variable (A : Data (F := F) d L) (γ : Ent → ℕ) (κ : ℕ)
variable (O : CellTallies nD τ sig (HIx 1)) (W : Waits sig (HIx 1))
variable (q : PosShare TreeShare)

/-- The first `k` scatters of gathered rows, done. -/
def doneC (k : ℕ) : sProp 𝕄 := bigSep (Finset.univ.filter fun i : Fin 13 => i.val < k) (backC A γ)

theorem doneC_zero : (iprop(emp) : sProp 𝕄) ⊢ doneC A γ 0 := by
  unfold doneC
  rw [show (Finset.univ.filter fun i : Fin 13 => i.val < 0) = ∅ by decide]
  exact Entails.of_eq rfl

theorem doneC_succ (k : ℕ) (hk : k < 13) : iprop(doneC A γ k ∗ backC A γ ⟨k, hk⟩) ⊢ doneC A γ (k + 1) := by
  unfold doneC
  have h : (Finset.univ.filter fun i : Fin 13 => i.val < k + 1) = insert (⟨k, hk⟩ : Fin 13) (Finset.univ.filter fun i : Fin 13 => i.val < k) := by
    ext i
    simp only [Finset.mem_filter, Finset.mem_univ, true_and, Finset.mem_insert, Fin.ext_iff]
    omega
  rw [h, bigSep_put (backC A γ) (by simp)]
  iintro ⟨H1, H2⟩
  isplitl [H2] <;> iassumption

theorem doneC_all : doneC A γ 13 ⊢ bigSep Finset.univ (backC A γ) := by
  unfold doneC
  rw [show (Finset.univ.filter fun i : Fin 13 => i.val < 13) = Finset.univ by decide]

/-- Between rounds: gather `k + 1` in flight into one buffer, scatter `k` in flight from the other. -/
def stR (R R' : Memref sig .scVector .vmem S128x128 .f32) (f' : Buf (Elt F) (R'.view.loc (thr d L))) (k k1 : ℕ) (hk : k < 13) (hk1 : k1 < 13) : sProp 𝕄 :=
  iprop(flyG A q R k1 hk1 ∗ flyS A γ R' f' k hk ∗ bigSep (pending k1) (pieceC A γ) ∗ doneC A γ k ∗ owing (d := d) (L := L) O W)

set_option maxHeartbeats 1000000 in
/-- One round: the gather and the scatter in flight are waited for, the next gather and the next scatter started. -/
theorem round {α : Type} {Q : α → sProp 𝕄} (R R' : Memref sig .scVector .vmem S128x128 .f32)
    (f : Buf (Elt F) (R.view.loc (thr d L))) (f' : Buf (Elt F) (R'.view.loc (thr d L)))
    (hcr : R'.view.dmaCredit = 128 * N1)
    (hN : ∑ j, (R'.slice (S128x128.rowRect hg.axis' j) (S128x128.stride_rowRect hg.axis' j)).view.dmaCredit = R'.view.dmaCredit)
    (k k1 k2 : ℕ) (hk : k < 13) (hk1 : k1 < 13) (hk2 : k2 < 13) (e1 : k1 = k + 1) (e2 : k2 = k1 + 1)
    {hn hn' : S128.numel = S128x128.size hg.axis'} {hp hp' : (thr d L).2.kind = .scVector} {hsrc} {he he' : EltTy.bits .f32 = 32}
    {hsp hsp' : Space.hbm = .hbm ∨ Space.hbm = .shared} {hr hr' : S100000x128.StreamRows 0} {h1 h2 h3 h4}
    {kont : PUnit → Prog (TpuEff nD τ sig (Elt F) Λ₀ (thr d L).2) α} :
    iprop(mayW (d := d) (L := L) O ∗ wInv A γ κ ∗ stR A γ O W q R R' f' k k1 hk hk1)
      ⊢ iprop((stR A γ O W q R' R f k1 k2 hk1 hk2 -∗ wp frame (wpE (defs₀ (F := F)) 𝒱₀ (thr d L) none) Set.univ (kont ⟨⟩) Q)
        -∗ wp frame (wpE (defs₀ (F := F)) 𝒱₀ (thr d L) none) Set.univ
            (SparseCore.waitIndirectGather cc0_scratch6.sem xA R h1 h2 >>= fun _ =>
             SparseCore.waitIndirectScatter cc0_scratch7.sem R' oA h3 h4 >>= fun _ =>
             SparseCore.enqueueIndirectGather hp xA R' hg (rowC csV k2 hk2) hn cc0_scratch6.sem hsrc he hsp hr >>= fun _ =>
             SparseCore.enqueueIndirectScatter hp' R oA hg (rowC cdV k1 hk1) hn' cc0_scratch7.sem he' hsp' hr' >>= kont) Q) := by
  subst e1 e2
  unfold stR
  iintro ⟨#Hmw, #Hw, HG, HS, Hp, Hd, HO⟩ Hk
  iapply (waitG A O W q R f (k + 1) hk1) $$ [HG HO]
  · isplitr; · iexact Hmw
    isplitl [HG]; · iexact HG
    iexact HO
  iintro ⟨Hidle, HR, HO⟩
  iapply (waitS A γ O W R' f' k hk hcr) $$ [HS HO]
  · isplitr; · iexact Hmw
    isplitl [HS]; · iexact HS
    iexact HO
  iintro ⟨⟨Hb, HR'⟩, Hsem, HO⟩
  iapply (gather A q R' (k + 1 + 1) hk2 hN) $$ [Hidle HR']
  · isplitl [Hidle]; · iexact Hidle
    iexact HR'
  iintro HG
  iapply (scatterC A γ κ R f (k + 1) hk1) $$ [HR Hp Hsem]
  · isplitr; · iexact Hw
    isplitl [HR]; · iexact HR
    isplitl [Hp]; · iexact Hp
    iexact Hsem
  iintro ⟨HS, Hp⟩
  iapply Hk
  isplitl [HG]; · iexact HG
  isplitl [HS]; · iexact HS
  isplitl [Hp]; · iexact Hp
  isplitl [Hd Hb]
  · iapply (doneC_succ A γ k hk)
    isplitl [Hd] <;> iassumption
  iexact HO

end Cert.Proof.KernelTile

end
-- ==== Proof.TileEnds.lean ====
/-
  A tile before its transfers and after them: the scratch and the output's rows taken apart into what each transfer takes,
  and put together again.
-/
module

public import proofs.«01_k».proof.Proof.TileBody

@[expose] public section

noncomputable section

namespace Cert.Proof.KernelTile

open Cert.Kernel Cert.Kernel.Gen
open Cert.Proof.ScatterBatch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (pending Batch)

variable {F : FTy → Type} [FloatOps F]

local notation "𝕄" => MT nD τ sig (HIx 1) (Elt F) ℕ UU ℕ

variable {d : Dev nD} {L : grid0.Coords} (A : Data (F := F) d L) (q : PosShare TreeShare) (γ : Ent → ℕ) (κ : ℕ)

/-- What the transfers use of the tile's buffers, the output's rows at contents `g`. -/
def held (g : Buf (Elt F) (oA.view.loc (thr d L))) : sProp 𝕄 :=
  iprop((csV.view.loc (thr d L) ↦[csV.view.set]{fullShare} A.cs) ∗ (cdV.view.loc (thr d L) ↦[cdV.view.set]{fullShare} A.cd)
    ∗ (tdV.view.loc (thr d L) ↦[tdV.view.set]{fullShare} A.td) ∗ (tkV.view.loc (thr d L) ↦[tkV.view.set]{fullShare} A.tk)
    ∗ (xA.view.loc (thr d L) ↦[xA.view.set]{q} A.x) ∗ (oA.view.loc (thr d L) ↦[outSet A]{fullShare} g)
    ∗ semVal (thr d L, .dma cc0_scratch6.sem) 0 ∗ semVal (thr d L, .dma cc0_scratch8.sem) 0)

theorem bigSep_sep'' {ι : Type} (s : Finset ι) (Φ Ψ : ι → sProp 𝕄) :
    bigSep s (fun i => iprop(Φ i ∗ Ψ i)) = iprop(bigSep s Φ ∗ bigSep s Ψ) := BI.bigSep_sep s Φ Ψ

/-- All entries' counters are the token entries' and the copied entries'. -/
theorem counters_split (Φ : Ent → sProp 𝕄) :
    bigSep Finset.univ Φ = iprop((bigSep Finset.univ fun k : Fin 12 => bigSep Finset.univ fun j : Fin 128 => Φ (.inl (k, j)))
      ∗ (bigSep Finset.univ fun k : Fin 13 => bigSep Finset.univ fun j : Fin 128 => Φ (.inr (k, j)))) := by
  rw [bigSep_univ_sum, bigSep_univ_prod, bigSep_univ_prod]
  rfl

theorem pieceT_all : bigSep Finset.univ (pieceT A γ)
    = iprop((tkV.view.loc (thr d L) ↦[tkV.view.set]{fullShare} A.tk) ∗ (tdV.view.loc (thr d L) ↦[tdV.view.set]{fullShare} A.td)
      ∗ bigSep Finset.univ fun k : Fin 12 => bigSep Finset.univ fun j : Fin 128 => c0 (F := F) γ (.inl (k, j))) := by
  unfold pieceT
  rw [bigSep_sep'', bigSep_sep'', list_rowsT tdV A.td, pointsTo_piecesOf tkV.view.set A.tk h12 fullShare]

theorem backT_all : bigSep Finset.univ (backT A γ)
    = iprop((bigSep Finset.univ fun k : Fin 12 => bigSep Finset.univ fun j : Fin 128 => c1 (F := F) γ (.inl (k, j)))
      ∗ (tdV.view.loc (thr d L) ↦[tdV.view.set]{fullShare} A.td) ∗ (tkV.view.loc (thr d L) ↦[tkV.view.set]{fullShare} A.tk)) := by
  unfold backT
  rw [bigSep_sep'', bigSep_sep'', list_rowsT tdV A.td, pointsTo_piecesOf tkV.view.set A.tk h12 fullShare]

theorem pieceC_all : bigSep Finset.univ (pieceC A γ)
    = iprop((cdV.view.loc (thr d L) ↦[cdV.view.set]{fullShare} A.cd)
      ∗ bigSep Finset.univ fun k : Fin 13 => bigSep Finset.univ fun j : Fin 128 => c0 (F := F) γ (.inr (k, j))) := by
  unfold pieceC
  rw [bigSep_sep'', list_rowsC cdV A.cd]

theorem backC_all : bigSep Finset.univ (backC A γ)
    = iprop((cdV.view.loc (thr d L) ↦[cdV.view.set]{fullShare} A.cd)
      ∗ bigSep Finset.univ fun k : Fin 13 => bigSep Finset.univ fun j : Fin 128 => c1 (F := F) γ (.inr (k, j))) := by
  unfold backC
  rw [bigSep_sep'', list_rowsC cdV A.cd]

theorem csRow_all : bigSep Finset.univ (csRow A) = iprop(csV.view.loc (thr d L) ↦[csV.view.set]{fullShare} A.cs) :=
  (list_rowsC csV A.cs).symm

theorem pending_zero (n : ℕ) : pending 0 = (Finset.univ : Finset (Fin n)) := by
  ext i; simp [pending]

/-- Before the transfers: the write invariant, and what the transfers take. -/
theorem start (g : Buf (Elt F) (oA.view.loc (thr d L))) :
    held A q g ⊢ |={Set.univ}=> iprop(∃ (γ : Ent → ℕ) (κ : ℕ), wInv A γ κ ∗ stT A γ 0 ∗ bigSep (pending 0) (pieceC A γ) ∗ idleG A q) := by
  unfold held
  iintro ⟨Hcs, Hcd, Htd, Htk, Hx, Ho, Hg, Ht⟩
  imod (writeInv_alloc EC (thr d L) oA.view hg.axis (rowOfEnt A) (outSet A) A.G g (Em := Set.univ)) $$ Ho with ⟨%γ, %κ, #Hw, Hc⟩
  imod (Transfers.batch_alloc' EC (thr d L) (default : HIx 1) N1 (allT A γ) (sm := .dma cc0_scratch8.sem) (E := Set.univ)) $$ Ht with HB
  ihave Hc2 := (Entails.of_eq (counters_split (F := F) fun k => c0 γ k)) $$ Hc
  icases Hc2 with ⟨HcT, HcC⟩
  imodintro
  iexists γ, κ
  isplitr; · iexact Hw
  isplitl [HB Htk Htd HcT]
  · unfold stT
    rw [Nat.zero_mul, pending_zero, pieceT_all]
    isplitl [HB]; · iexact HB
    isplitl [Htk]; · iexact Htk
    isplitl [Htd]; · iexact Htd
    iexact HcT
  isplitl [Hcd HcC]
  · rw [pending_zero, pieceC_all]
    isplitl [Hcd]; · iexact Hcd
    iexact HcC
  unfold idleG
  rw [csRow_all]
  isplitl [Hx]; · iexact Hx
  isplitl [Hcs]; · iexact Hcs
  iexact Hg

/-- After them: the buffers back, the output's rows at what the lists say. -/
theorem finish : iprop(wInv A γ κ ∗ bigSep Finset.univ (backT A γ) ∗ doneC A γ 13 ∗ idleG A q ∗ semVal (thr d L, .dma cc0_scratch8.sem) 0)
    ⊢ |={Set.univ}=> held A q A.G := by
  unfold held idleG
  iintro ⟨#Hw, HT, HC, ⟨Hx, Hcs, Hg⟩, Ht⟩
  ihave HT2 := (Entails.of_eq (backT_all A γ)) $$ HT
  icases HT2 with ⟨HcT, Htd, Htk⟩
  ihave HC1 := (doneC_all A γ) $$ HC
  ihave HC2 := (Entails.of_eq (backC_all A γ)) $$ HC1
  icases HC2 with ⟨Hcd, HcC⟩
  ihave Hcs2 := (Entails.of_eq (csRow_all A)) $$ Hcs
  ihave Hc := (Entails.of_eq (counters_split (F := F) fun k => c1 γ k).symm) $$ [HcT HcC]
  · isplitl [HcT] <;> iassumption
  haveI : Nonempty Ent := ⟨.inl (⟨0, by decide⟩, ⟨0, by decide⟩)⟩
  imod (writeInv_collect EC (thr d L) (v := oA.view) (ax := hg.axis) (r := rowOfEnt A) (S := outSet A) (G := A.G) (γ := γ) (κ := κ)
    (exists_of_mem_rowsUnion (thr d L) oA.view hg.axis (rowOfEnt A))) $$ [Hc] with Ho
  · isplitr; · iexact Hw
    iexact Hc
  imodintro
  isplitl [Hcs2]; · iexact Hcs2
  isplitl [Hcd]; · iexact Hcd
  isplitl [Htd]; · iexact Htd
  isplitl [Htk]; · iexact Htk
  isplitl [Hx]; · iexact Hx
  isplitl [Ho]; · iexact Ho
  isplitl [Hg]; · iexact Hg
  iexact Ht

end Cert.Proof.KernelTile

end
-- ==== Proof.TileRun.lean ====
/-
  The program of one tile, from the arrays it is handed to the arrays it hands back.
-/
module

public import proofs.«01_k».proof.Proof.TileEnds

@[expose] public section

noncomputable section

namespace Cert.Proof.KernelTile

open Cert.Kernel Cert.Kernel.Gen
open Cert.Proof.ScatterBatch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (pending Batch)

variable {F : FTy → Type} [FloatOps F]

local notation "𝕄" => MT nD τ sig (HIx 1) (Elt F) ℕ UU ℕ

variable (d : Dev nD) (L : grid0.Coords)

/-! ## The tile's own semaphores and buffers -/

/-- The semaphores the program names. -/
def semSet : Finset (SemLoc sig) :=
  {.dma cc0_scratch6.sem, .dma cc0_scratch7.sem, .dma cc0_scratch8.sem, .dma cc0_scoped0.sem, .dma cc0_scoped1.sem, .dma cc0_scoped2.sem, .dma cc0_scoped3.sem}

/-- The scratch the program names. -/
def refSet : Finset (Ref sig .scVector) := {cc0_scratch0, cc0_scratch1, cc0_scratch2, cc0_scratch3, cc0_scratch4, cc0_scratch5}

theorem semSet_scoped : ∀ s ∈ semSet, s.isScoped .scVector = true := by decide
theorem refSet_owner : ∀ r ∈ refSet, ((Proc.scVector (cV L) (jV L)).devRef r).owner = .proc (.scVector (cV L) (jV L)) := by
  intro r hr
  simp only [refSet, Finset.mem_insert, Finset.mem_singleton] at hr
  rcases hr with rfl | rfl | rfl | rfl | rfl | rfl <;> rfl

/-- A tile's own semaphores at zero: those it names, one by one, and the rest. -/
theorem ownSems0_V :
    (ownSems0 (thr d L) : sProp 𝕄)
      = iprop((semVal (thr d L, .dma cc0_scratch6.sem) 0 ∗ semVal (thr d L, .dma cc0_scratch7.sem) 0 ∗ semVal (thr d L, .dma cc0_scratch8.sem) 0
            ∗ semVal (thr d L, .dma cc0_scoped0.sem) 0 ∗ semVal (thr d L, .dma cc0_scoped1.sem) 0 ∗ semVal (thr d L, .dma cc0_scoped2.sem) 0
            ∗ semVal (thr d L, .dma cc0_scoped3.sem) 0)
          ∗ bigSep (ownCells (thr d L) \ semSet.image fun s => (thr d L, s)) fun g => semVal g 0) := by
  unfold SparseCore.Cfg.ownSems0
  rw [SparseCore.bigSep_sdiff_split' (s := ownCells (thr d L)) (t := semSet.image fun s => (thr d L, s)) (by
      intro g hg
      obtain ⟨s, hs, rfl⟩ := Finset.mem_image.1 hg
      exact mem_ownCells.mpr ⟨rfl, semSet_scoped s hs⟩),
    SparseCore.bigSep_image_of_injOn (fun s _ s' _ h => (Prod.mk.inj h).2)]
  unfold semSet
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem refs0 : (cc0_scratch0 : Ref sig .scVector) ∉ ({cc0_scratch1, cc0_scratch2, cc0_scratch3, cc0_scratch4, cc0_scratch5} : Finset (Ref sig .scVector)) := by decide
theorem refs1 : (cc0_scratch1 : Ref sig .scVector) ∉ ({cc0_scratch2, cc0_scratch3, cc0_scratch4, cc0_scratch5} : Finset (Ref sig .scVector)) := by decide
theorem refs2 : (cc0_scratch2 : Ref sig .scVector) ∉ ({cc0_scratch3, cc0_scratch4, cc0_scratch5} : Finset (Ref sig .scVector)) := by decide
theorem refs3 : (cc0_scratch3 : Ref sig .scVector) ∉ ({cc0_scratch4, cc0_scratch5} : Finset (Ref sig .scVector)) := by decide
theorem refs4 : (cc0_scratch4 : Ref sig .scVector) ∉ ({cc0_scratch5} : Finset (Ref sig .scVector)) := by decide

/-- A tile's own buffers: the scratch it names, each at some contents, and the rest. -/
theorem ownBufs_V :
    (ownBufs (thr d L) : sProp 𝕄)
      = iprop(((∃ f, (thr d L).loc cc0_scratch0 ↦{fullShare} f) ∗ (∃ f, (thr d L).loc cc0_scratch1 ↦{fullShare} f)
            ∗ (∃ f, (thr d L).loc cc0_scratch2 ↦{fullShare} f) ∗ (∃ f, (thr d L).loc cc0_scratch3 ↦{fullShare} f)
            ∗ (∃ f, (thr d L).loc cc0_scratch4 ↦{fullShare} f) ∗ (∃ f, (thr d L).loc cc0_scratch5 ↦{fullShare} f))
          ∗ bigSep (ownRefs (τ := τ) (.scVector (cV L) (jV L)) \ refSet.image (Proc.scVector (cV L) (jV L)).devRef)
              fun b => iprop(∃ f, ((d, b) : Loc nD τ sig) ↦{fullShare} f)) := by
  unfold SparseCore.Cfg.ownBufs
  refine (SparseCore.bigSep_sdiff_split' (s := ownRefs (τ := τ) (.scVector (cV L) (jV L))) (t := refSet.image (Proc.scVector (cV L) (jV L)).devRef) (by
      intro b hb
      obtain ⟨r, hr, rfl⟩ := Finset.mem_image.1 hb
      exact SparseCore.Cfg.mem_ownRefs_of_owner (refSet_owner L r hr))).trans ?_
  rw [SparseCore.bigSep_image_of_injOn (fun s _ s' _ h => Proc.devRef_injective _ h)]
  unfold refSet
  rw [SparseCore.bigSep_insert' refs0, SparseCore.bigSep_insert' refs1, SparseCore.bigSep_insert' refs2,
    SparseCore.bigSep_insert' refs3, SparseCore.bigSep_insert' refs4, bigSep_singleton]

variable (Ar : Arrays (F := F)) (q : PosShare TreeShare)

/-- What a tile is handed: a share of each array it reads, the rows of the output it is to write. -/
def tileIn (g0 : Buf (Elt F) (oA.view.loc (thr d L))) : sProp 𝕄 :=
  iprop((xM.view.loc (thr d L) ↦{q} Ar.x) ∗ (tbM.view.loc (thr d L) ↦{q} Ar.tb) ∗ (csM.view.loc (thr d L) ↦{q} Ar.cs)
    ∗ (cdM.view.loc (thr d L) ↦{q} Ar.cd) ∗ (tdM.view.loc (thr d L) ↦{q} Ar.td)
    ∗ (oA.view.loc (thr d L) ↦[rowsUnion (thr d L) oA.view hg.axis (rowW Ar (wL L))]{fullShare} g0))

/-- The program at tile `L`. -/
abbrev body : Prog (TpuEff nD τ sig (Elt F) Λ₀ (.scVector (cV L) (jV L))) PUnit :=
  cc0__sc_body (F := F) L (Memref.whole main_arg0_scv) (Memref.isWhole_whole _) (Memref.whole main_v2_scv) (Memref.isWhole_whole _)
    (Memref.whole main_c_scv) (Memref.isWhole_whole _) (Memref.whole main_c_0_scv) (Memref.isWhole_whole _)
    (Memref.whole main_c_1_scv) (Memref.isWhole_whole _) (Memref.whole main_v3_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scoped0 cc0_scoped1 cc0_scoped2 cc0_scoped3

/-- A whole buffer, under the name the transfers use. -/
theorem land {s : Shape} {e : EltTy} (M : Memref sig .scVector .vmem s e) (hM : M.view.set = Finset.univ) (f g : Buf (Elt F) (M.view.loc (thr d L))) (h : f = g) :
    (M.view.loc (thr d L) ↦{fullShare} f : sProp 𝕄) ⊢ M.view.loc (thr d L) ↦[M.view.set]{fullShare} g := by
  subst h; rw [hM]
theorem unland {s : Shape} {e : EltTy} (M : Memref sig .scVector .vmem s e) (hM : M.view.set = Finset.univ) (f : Buf (Elt F) (M.view.loc (thr d L))) :
    (M.view.loc (thr d L) ↦[M.view.set]{fullShare} f : sProp 𝕄) ⊢ M.view.loc (thr d L) ↦{fullShare} f := by
  rw [hM]

theorem hN_r0 : ∑ j, (r0V.slice (S128x128.rowRect hg.axis' j) (S128x128.stride_rowRect hg.axis' j)).view.dmaCredit = r0V.view.dmaCredit := by decide
theorem hN_r1 : ∑ j, (r1V.slice (S128x128.rowRect hg.axis' j) (S128x128.stride_rowRect hg.axis' j)).view.dmaCredit = r1V.view.dmaCredit := by decide

theorem owing_intro' (O : CellTallies nD τ sig (HIx 1)) (W W' : Waits sig (HIx 1)) (h : ∀ p ∈ W', p ∈ W ∨ p.2 = none) :
    owes (thr d L) O W' ⊢ owing (F := F) (d := d) (L := L) O W := by
  unfold owing
  iintro H
  iexists W'; isplitr
  · ipureintro; exact h
  iexact H

set_option maxHeartbeats 8000000 in
/-- The tile's program, from its arrays to its rows of the output at what the lists say. -/
theorem tile_body (hF : (K (F := F)).Facts) (O : CellTallies nD τ sig (HIx 1)) (W : Waits sig (HIx 1)) (hO : ∀ g, O g none = 0)
    (g0 : Buf (Elt F) (oA.view.loc (thr d L))) :
    iprop(levAts (K (F := F)).L (K (F := F)).lev ∗ emp ∗ tileIn d L Ar q g0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (body (F := F) L)
          fun _ => iprop(tileIn d L Ar q Ar.G
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold body
  simp only [cc0__sc_body_eq_skeleton, cc0__sc_body_skel, k0_part1_eq_skeleton, k0_part1_skel, k0_part2_eq_skeleton, k0_part2_skel,
    k0_part3_eq_skeleton, k0_part3_skel, k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel, k0_part10_eq_skeleton, k0_part10_skel,
    k0_part11_eq_skeleton, k0_part11_skel, bind_assoc, pure_bind]
  rw [(K (F := F)).scopedBufs_V hF d (cV L) (jV L), SparseCore.Cfg.scopedSems0_V (Val := Elt F) d (cV L) (jV L), ownSems0_V, ownBufs_V]
  unfold tileIn
  iintro ⟨#Hlv, -, ⟨Hx, Htb, Hcs, Hcd, Htd, Ho⟩, ⟨⟨⟨%f0, H0⟩, ⟨%f1, H1⟩, ⟨%f2, H2⟩, ⟨%f3, H3⟩, ⟨%f4, H4⟩, ⟨%f5, H5⟩⟩, Hbufs⟩,
    ⟨⟨Hs6, Hs7, Hs8, Hc0, Hc1, Hc2, Hc3⟩, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave H0 := (show ((thr d L).loc cc0_scratch0 ↦{fullShare} f0 : sProp 𝕄) ⊢ csV.view.loc (thr d L) ↦{fullShare} f0 from Entails.refl _) $$ H0
  ihave H1 := (show ((thr d L).loc cc0_scratch1 ↦{fullShare} f1 : sProp 𝕄) ⊢ cdV.view.loc (thr d L) ↦{fullShare} f1 from Entails.refl _) $$ H1
  ihave H2 := (show ((thr d L).loc cc0_scratch2 ↦{fullShare} f2 : sProp 𝕄) ⊢ tdV.view.loc (thr d L) ↦{fullShare} f2 from Entails.refl _) $$ H2
  ihave H5 := (show ((thr d L).loc cc0_scratch5 ↦{fullShare} f5 : sProp 𝕄) ⊢ tkV.view.loc (thr d L) ↦{fullShare} f5 from Entails.refl _) $$ H5
  ihave Hcs2 := (pointsTo_split_subset (q := q) (f := Ar.cs) (S := Finset.univ) (Finset.subset_univ (blkC L csM).view.set)).1 $$ Hcs
  icases Hcs2 with ⟨Hcs, Hcsr⟩
  ihave Hcd2 := (pointsTo_split_subset (q := q) (f := Ar.cd) (S := Finset.univ) (Finset.subset_univ (blkC L cdM).view.set)).1 $$ Hcd
  icases Hcd2 with ⟨Hcd, Hcdr⟩
  ihave Htd2 := (pointsTo_split_subset (q := q) (f := Ar.td) (S := Finset.univ) (Finset.subset_univ (blkT L tdM).view.set)).1 $$ Htd
  icases Htd2 with ⟨Htd, Htdr⟩
  ihave Hcs := (show (csM.view.loc (thr d L) ↦[(blkC L csM).view.set]{q} Ar.cs : sProp 𝕄) ⊢ (blkC L csM).view.loc (thr d L) ↦[(blkC L csM).view.set]{q} Ar.cs from Entails.refl _) $$ Hcs
  ihave Hcd := (show (cdM.view.loc (thr d L) ↦[(blkC L cdM).view.set]{q} Ar.cd : sProp 𝕄) ⊢ (blkC L cdM).view.loc (thr d L) ↦[(blkC L cdM).view.set]{q} Ar.cd from Entails.refl _) $$ Hcd
  ihave Htd := (show (tdM.view.loc (thr d L) ↦[(blkT L tdM).view.set]{q} Ar.td : sProp 𝕄) ⊢ (blkT L tdM).view.loc (thr d L) ↦[(blkT L tdM).view.set]{q} Ar.td from Entails.refl _) $$ Htd
  ihave Htb := (show (tbM.view.loc (thr d L) ↦{q} Ar.tb : sProp 𝕄) ⊢ tbM.view.loc (thr d L) ↦{q} Ar.tb from Entails.refl _) $$ Htb
  sl_exec
  -- what has landed are the tile's data
  obtain ⟨A, hA⟩ : ∃ A, A = mkData Ar f0 f1 f2 f5 := ⟨_, rfl⟩
  ihave H0 := (land d L csV (View.set_whole _) (View.write (Elt F) csV.view f0 (tile_body.sl.dma0 L Ar) Finset.univ) A.cs (by rw [hA]; rfl)) $$ H0
  ihave H1 := (land d L cdV (View.set_whole _) (View.write (Elt F) cdV.view f1 (tile_body.sl.dma0_1 L Ar) Finset.univ) A.cd (by rw [hA]; rfl)) $$ H1
  ihave H2 := (land d L tdV (View.set_whole _) (View.write (Elt F) tdV.view f2 (tile_body.sl.dma0_2 L Ar) Finset.univ) A.td (by rw [hA]; rfl)) $$ H2
  ihave H5 := (land d L tkV (View.set_whole _) (View.write (Elt F) tkV.view f5 (tile_body.sl.dma0_3 Ar) Finset.univ) A.tk (by rw [hA]; rfl)) $$ H5
  ihave H3 := (land d L r0V (View.set_whole _) f3 f3 rfl) $$ H3
  ihave H4 := (land d L r1V (View.set_whole _) f4 f4 rfl) $$ H4
  ihave Hx2 := (pointsTo_split_subset (q := q) (f := Ar.x) (S := Finset.univ) (Finset.subset_univ xA.view.set)).1 $$ Hx
  icases Hx2 with ⟨Hx, Hxr⟩
  have hx : A.x = Ar.x := by rw [hA]; rfl
  have hG : A.G = Ar.G := by rw [hA]; rfl
  have hout : rowsUnion (thr d L) oA.view hg.axis (rowW Ar (wL L)) = outSet A := by unfold outSet; rw [hA, rowOfEnt_mkData]
  rw [← hx, ← hG, hout]
  clear hA
  imod (start A q g0) $$ [H0 H1 H2 H5 Hx Ho Hs6 Hs8] with ⟨%γ, %κ, #Hw, HT, Hp, Hidle⟩
  · unfold held
    isplitl [H0]; · iexact H0
    isplitl [H1]; · iexact H1
    isplitl [H2]; · iexact H2
    isplitl [H5]; · iexact H5
    isplitl [Hx]; · iexact Hx
    isplitl [Ho]; · iexact Ho
    isplitl [Hs6] <;> iassumption
  ihave HO := (owing_intro' (F := F) d L O W _ (by
    intro p hp
    simp only [Finset.mem_insert] at hp
    rcases hp with hp | hp | hp | hp | hp
    · exact .inr (hp ▸ rfl)
    · exact .inr (hp ▸ rfl)
    · exact .inr (hp ▸ rfl)
    · exact .inr (hp ▸ rfl)
    · exact .inl hp)) $$ HO
  iapply (scatterT A γ κ 0 (by decide)) $$ [HT]
  · isplitr; · iexact Hw
    iexact HT
  iintro HT
  iapply (scatterT A γ κ 1 (by decide)) $$ [HT]
  · isplitr; · iexact Hw
    iexact HT
  iintro HT
  iapply (scatterT A γ κ 2 (by decide)) $$ [HT]
  · isplitr; · iexact Hw
    iexact HT
  iintro HT
  iapply (scatterT A γ κ 3 (by decide)) $$ [HT]
  · isplitr; · iexact Hw
    iexact HT
  iintro HT
  iapply (scatterT A γ κ 4 (by decide)) $$ [HT]
  · isplitr; · iexact Hw
    iexact HT
  iintro HT
  iapply (scatterT A γ κ 5 (by decide)) $$ [HT]
  · isplitr; · iexact Hw
    iexact HT
  iintro HT
  iapply (scatterT A γ κ 6 (by decide)) $$ [HT]
  · isplitr; · iexact Hw
    iexact HT
  iintro HT
  iapply (scatterT A γ κ 7 (by decide)) $$ [HT]
  · isplitr; · iexact Hw
    iexact HT
  iintro HT
  iapply (scatterT A γ κ 8 (by decide)) $$ [HT]
  · isplitr; · iexact Hw
    iexact HT
  iintro HT
  iapply (scatterT A γ κ 9 (by decide)) $$ [HT]
  · isplitr; · iexact Hw
    iexact HT
  iintro HT
  iapply (scatterT A γ κ 10 (by decide)) $$ [HT]
  · isplitr; · iexact Hw
    iexact HT
  iintro HT
  iapply (scatterT A γ κ 11 (by decide)) $$ [HT]
  · isplitr; · iexact Hw
    iexact HT
  iintro HT
  -- the first chunk gathered, the second in flight, the first scatter started
  iapply (gather A q r0V 0 (by decide) hN_r0) $$ [Hidle H3]
  · isplitl [Hidle]; · iexact Hidle
    unfold bufAny; iexists f3; iexact H3
  iintro HG
  iapply (waitG A O W q r0V f3 0 (by decide)) $$ [HG HO]
  · isplitr; · iexact Hmw
    isplitl [HG]; · iexact HG
    iexact HO
  iintro ⟨Hidle, H3, HO⟩
  iapply (gather A q r1V 1 (by decide) hN_r1) $$ [Hidle H4]
  · isplitl [Hidle]; · iexact Hidle
    unfold bufAny; iexists f4; iexact H4
  iintro HG
  iapply (scatterC A γ κ r0V f3 0 (by decide)) $$ [H3 Hp Hs7]
  · isplitr; · iexact Hw
    isplitl [H3]; · iexact H3
    isplitl [Hp]; · iexact Hp
    iexact Hs7
  iintro ⟨HS, Hp⟩
  ihave HR := (show iprop(flyG A q r1V 1 (by decide) ∗ flyS A γ r0V f3 0 (by decide) ∗ bigSep (pending 1) (pieceC A γ) ∗ owing (d := d) (L := L) O W)
      ⊢ stR A γ O W q r1V r0V f3 0 1 (by decide) (by decide) from by
    unfold stR
    iintro ⟨H1, H2, H3, H4⟩
    isplitl [H1]; · iexact H1
    isplitl [H2]; · iexact H2
    isplitl [H3]; · iexact H3
    isplitr
    · iapply (doneC_zero A γ); iempintro
    iexact H4) $$ [HG HS Hp HO]
  · isplitl [HG]; · iexact HG
    isplitl [HS]; · iexact HS
    isplitl [Hp]; · iexact Hp
    iexact HO
  -- the rounds
  iapply (round A γ κ O W q r1V r0V f4 f3 credit_r0 hN_r0 0 1 2 (by decide) (by decide) (by decide) rfl rfl) $$ [HR]
  · isplitr; · iexact Hmw
    isplitr; · iexact Hw
    iexact HR
  iintro HR
  iapply (round A γ κ O W q r0V r1V f3 f4 credit_r1 hN_r1 1 2 3 (by decide) (by decide) (by decide) rfl rfl) $$ [HR]
  · isplitr; · iexact Hmw
    isplitr; · iexact Hw
    iexact HR
  iintro HR
  iapply (round A γ κ O W q r1V r0V f4 f3 credit_r0 hN_r0 2 3 4 (by decide) (by decide) (by decide) rfl rfl) $$ [HR]
  · isplitr; · iexact Hmw
    isplitr; · iexact Hw
    iexact HR
  iintro HR
  iapply (round A γ κ O W q r0V r1V f3 f4 credit_r1 hN_r1 3 4 5 (by decide) (by decide) (by decide) rfl rfl) $$ [HR]
  · isplitr; · iexact Hmw
    isplitr; · iexact Hw
    iexact HR
  iintro HR
  iapply (round A γ κ O W q r1V r0V f4 f3 credit_r0 hN_r0 4 5 6 (by decide) (by decide) (by decide) rfl rfl) $$ [HR]
  · isplitr; · iexact Hmw
    isplitr; · iexact Hw
    iexact HR
  iintro HR
  iapply (round A γ κ O W q r0V r1V f3 f4 credit_r1 hN_r1 5 6 7 (by decide) (by decide) (by decide) rfl rfl) $$ [HR]
  · isplitr; · iexact Hmw
    isplitr; · iexact Hw
    iexact HR
  iintro HR
  iapply (round A γ κ O W q r1V r0V f4 f3 credit_r0 hN_r0 6 7 8 (by decide) (by decide) (by decide) rfl rfl) $$ [HR]
  · isplitr; · iexact Hmw
    isplitr; · iexact Hw
    iexact HR
  iintro HR
  iapply (round A γ κ O W q r0V r1V f3 f4 credit_r1 hN_r1 7 8 9 (by decide) (by decide) (by decide) rfl rfl) $$ [HR]
  · isplitr; · iexact Hmw
    isplitr; · iexact Hw
    iexact HR
  iintro HR
  iapply (round A γ κ O W q r1V r0V f4 f3 credit_r0 hN_r0 8 9 10 (by decide) (by decide) (by decide) rfl rfl) $$ [HR]
  · isplitr; · iexact Hmw
    isplitr; · iexact Hw
    iexact HR
  iintro HR
  iapply (round A γ κ O W q r0V r1V f3 f4 credit_r1 hN_r1 9 10 11 (by decide) (by decide) (by decide) rfl rfl) $$ [HR]
  · isplitr; · iexact Hmw
    isplitr; · iexact Hw
    iexact HR
  iintro HR
  have h10 : 10 < 13 := by decide
  have h11 : 11 < 13 := by decide
  ihave HR2 := (show stR A γ O W q r1V r0V f3 10 11 h10 h11
      ⊢ iprop(flyG A q r1V 11 h11 ∗ flyS A γ r0V f3 10 h10 ∗ bigSep (pending 11) (pieceC A γ) ∗ doneC A γ 10 ∗ owing (d := d) (L := L) O W) from by
    unfold stR; exact Entails.refl _) $$ HR
  icases HR2 with ⟨HG, HS, Hp, Hd, HO⟩
  -- the last two scatters are outstanding together
  iapply (waitG A O W q r1V f4 11 (by decide)) $$ [HG HO]
  · isplitr; · iexact Hmw
    isplitl [HG]; · iexact HG
    iexact HO
  iintro ⟨Hidle, H4, HO⟩
  iapply (waitS A γ O W r0V f3 10 (by decide) credit_r0) $$ [HS HO]
  · isplitr; · iexact Hmw
    isplitl [HS]; · iexact HS
    iexact HO
  iintro ⟨⟨Hb, H3⟩, Hs7, HO⟩
  ihave Hd := (doneC_succ A γ 10 (by decide)) $$ [Hd Hb]
  · isplitl [Hd] <;> iassumption
  iapply (gather A q r0V 12 (by decide) hN_r0) $$ [Hidle H3]
  · isplitl [Hidle]; · iexact Hidle
    iexact H3
  iintro HG
  iapply (scatterTwo_fst A γ κ r1V f4 r0V f3 11 (by decide) ⟨12, by decide⟩) $$ [H4 Hp Hs7]
  · isplitr; · iexact Hw
    isplitl [H4]; · iexact H4
    isplitl [Hp]; · iexact Hp
    iexact Hs7
  iintro ⟨HS, Hp⟩
  iapply (waitG A O W q r0V f3 12 (by decide)) $$ [HG HO]
  · isplitr; · iexact Hmw
    isplitl [HG]; · iexact HG
    iexact HO
  iintro ⟨Hidle, H3, HO⟩
  iapply (scatterTwo_snd A γ κ r1V f4 r0V f3 ⟨11, by decide⟩ 12 (by decide)) $$ [H3 Hp HS]
  · isplitr; · iexact Hw
    isplitl [H3]; · iexact H3
    isplitl [Hp]; · iexact Hp
    iexact HS
  iintro ⟨HS, Hp⟩
  iapply (waitTwo_fst A γ O W r1V f4 r0V f3 ⟨11, by decide⟩ ⟨12, by decide⟩ r0V credit_r0) $$ [HS HO]
  · isplitr; · iexact Hmw
    isplitl [HS]; · iexact HS
    iexact HO
  iintro ⟨HS, HO⟩
  iapply (waitTwo_snd A γ O W r1V f4 r0V f3 ⟨11, by decide⟩ ⟨12, by decide⟩ r1V credit_r1) $$ [HS HO]
  · isplitr; · iexact Hmw
    isplitl [HS]; · iexact HS
    iexact HO
  iintro ⟨⟨⟨Hb, H4⟩, ⟨Hb2, H3⟩⟩, Hs7, HO⟩
  ihave Hd := (doneC_succ A γ 11 (by decide)) $$ [Hd Hb]
  · isplitl [Hd] <;> iassumption
  ihave Hd := (doneC_succ A γ 12 (by decide)) $$ [Hd Hb2]
  · isplitl [Hd] <;> iassumption
  -- the token scatters' waits
  ihave HT := (stT_done A γ) $$ HT
  iapply (waitT A γ O W 0 (by decide)) $$ [HT HO]
  · isplitr; · iexact Hmw
    isplitl [HT]; · iexact HT
    iexact HO
  iintro ⟨HT, HO⟩
  iapply (waitT A γ O W 1 (by decide)) $$ [HT HO]
  · isplitr; · iexact Hmw
    isplitl [HT]; · iexact HT
    iexact HO
  iintro ⟨HT, HO⟩
  iapply (waitT A γ O W 2 (by decide)) $$ [HT HO]
  · isplitr; · iexact Hmw
    isplitl [HT]; · iexact HT
    iexact HO
  iintro ⟨HT, HO⟩
  iapply (waitT A γ O W 3 (by decide)) $$ [HT HO]
  · isplitr; · iexact Hmw
    isplitl [HT]; · iexact HT
    iexact HO
  iintro ⟨HT, HO⟩
  iapply (waitT A γ O W 4 (by decide)) $$ [HT HO]
  · isplitr; · iexact Hmw
    isplitl [HT]; · iexact HT
    iexact HO
  iintro ⟨HT, HO⟩
  iapply (waitT A γ O W 5 (by decide)) $$ [HT HO]
  · isplitr; · iexact Hmw
    isplitl [HT]; · iexact HT
    iexact HO
  iintro ⟨HT, HO⟩
  iapply (waitT A γ O W 6 (by decide)) $$ [HT HO]
  · isplitr; · iexact Hmw
    isplitl [HT]; · iexact HT
    iexact HO
  iintro ⟨HT, HO⟩
  iapply (waitT A γ O W 7 (by decide)) $$ [HT HO]
  · isplitr; · iexact Hmw
    isplitl [HT]; · iexact HT
    iexact HO
  iintro ⟨HT, HO⟩
  iapply (waitT A γ O W 8 (by decide)) $$ [HT HO]
  · isplitr; · iexact Hmw
    isplitl [HT]; · iexact HT
    iexact HO
  iintro ⟨HT, HO⟩
  iapply (waitT A γ O W 9 (by decide)) $$ [HT HO]
  · isplitr; · iexact Hmw
    isplitl [HT]; · iexact HT
    iexact HO
  iintro ⟨HT, HO⟩
  iapply (waitT A γ O W 10 (by decide)) $$ [HT HO]
  · isplitr; · iexact Hmw
    isplitl [HT]; · iexact HT
    iexact HO
  iintro ⟨HT, HO⟩
  iapply (waitT_last A γ O W) $$ [HT HO]
  · isplitr; · iexact Hmw
    isplitl [HT]; · iexact HT
    iexact HO
  iintro ⟨HT, Hs8, HO⟩
  imod (finish A q γ κ) $$ [HT Hd Hidle Hs8] with Hheld
  · isplitr; · iexact Hw
    isplitl [HT]; · iexact HT
    isplitl [Hd]; · iexact Hd
    isplitl [Hidle]; · iexact Hidle
    iexact Hs8
  ihave Hheld2 := (show held A q A.G ⊢ iprop((csV.view.loc (thr d L) ↦[csV.view.set]{fullShare} A.cs) ∗ (cdV.view.loc (thr d L) ↦[cdV.view.set]{fullShare} A.cd)
    ∗ (tdV.view.loc (thr d L) ↦[tdV.view.set]{fullShare} A.td) ∗ (tkV.view.loc (thr d L) ↦[tkV.view.set]{fullShare} A.tk)
    ∗ (xA.view.loc (thr d L) ↦[xA.view.set]{q} A.x) ∗ (oA.view.loc (thr d L) ↦[outSet A]{fullShare} A.G)
    ∗ semVal (thr d L, .dma cc0_scratch6.sem) 0 ∗ semVal (thr d L, .dma cc0_scratch8.sem) 0) from by unfold held; exact Entails.refl _) $$ Hheld
  icases Hheld2 with ⟨H0, H1, H2, H5, Hx, Ho, Hs6, Hs8⟩
  sl_step
  isplitl [Hx Hxr Htb Hcsr Hcdr Htdr Ho]
  · isplitl [Hx Hxr]
    · iapply (pointsTo_split_subset (q := q) (f := A.x) (S := Finset.univ) (Finset.subset_univ xA.view.set)).2
      isplitl [Hx] <;> iassumption
    isplitl [Htb]; · iexact Htb
    isplitl [Hcsr]; · iexact Hcsr
    isplitl [Hcdr]; · iexact Hcdr
    isplitl [Htdr]; · iexact Htdr
    iexact Ho
  isplitl [H0 H1 H2 H3 H4 H5 Hbufs]
  · isplitr [Hbufs]
    · isplitl [H0]; · iexists _; iapply (unland d L csV (View.set_whole _) A.cs); iexact H0
      isplitl [H1]; · iexists _; iapply (unland d L cdV (View.set_whole _) A.cd); iexact H1
      isplitl [H2]; · iexists _; iapply (unland d L tdV (View.set_whole _) A.td); iexact H2
      isplitl [H3]
      · unfold bufAny; icases H3 with ⟨%g3, H3⟩; iexists _; iapply (unland d L r0V (View.set_whole _) g3); iexact H3
      isplitl [H4]
      · unfold bufAny; icases H4 with ⟨%g4, H4⟩; iexists _; iapply (unland d L r1V (View.set_whole _) g4); iexact H4
      iexists _; iapply (unland d L tkV (View.set_whole _) A.tk); iexact H5
    iexact Hbufs
  isplitl [Hs6 Hs7 Hs8 Hc0 Hc1 Hc2 Hc3 Hsems]
  · isplitr [Hsems]
    · isplitl [Hs6]; · iexact Hs6
      isplitl [Hs7]; · iexact Hs7
      isplitl [Hs8]; · iexact Hs8
      isplitl [Hc0]; · iexact Hc0
      isplitl [Hc1]; · iexact Hc1
      isplitl [Hc2]; · iexact Hc2
      iexact Hc3
    iexact Hsems
  iapply (show owing (F := F) (d := d) (L := L) O W ⊢ iprop(∃ W', ⌜∀ p ∈ W', p ∈ W ∨ p.2 = none⌝ ∗ owes (thr d L) O W') from by
    unfold owing; exact Entails.refl _)
  iexact HO

end Cert.Proof.KernelTile

end
-- ==== Proof.Launch.lean ====
/-
  The program's run: @main writes its tables and the token block, starts the SparseCore call and waits for it.

  The call takes the six arrays whole. Tile `(c, i)` gets a share of each array it reads and the rows of the output its
  lists name, and brings them back with its rows of the output at what the lists say; the rows of all tiles together are
  the output. The run is stated at any arrays `A` of the call that are what @main has written when it starts the call.
-/
module

public import proofs.«01_k».proof.Proof.TileRun

@[expose] public section

noncomputable section

namespace Cert.Proof.KernelTile

open Cert.Kernel Cert.Kernel.Gen
open Cert.Proof.ScatterBatch

open Idealize.ShloMosaic
open Idealize.ShloMosaic.SparseCore (S V T)
open Idealize.ShloMosaic.SparseCore.Cfg (HIx Pay)
open Idealize.ShloMosaic.ValueIdx (ix1 ix2 ix3 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_seq after seq)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

theorem nCore_zero : (K (F := F)).nCore 0 = grid0.bound 0 := rfl
theorem nSub_zero : (K (F := F)).nSub 0 = grid0.bound 1 := rfl

/-! ## The tiles -/

def coordsV (c : Fin (grid0.bound 0)) (s : Fin (grid0.bound 1)) : grid0.Coords :=
  fun | 0 => c | 1 => s | ⟨_ + 2, h⟩ => absurd h (Nat.not_lt.2 (Nat.le_add_left _ _))

abbrev Tl : Type := Fin (grid0.bound 0) × Fin (grid0.bound 1)

/-- A tile's number. -/
def wE : Tl ≃ Fin 32 where
  toFun p := wL (coordsV p.1 p.2)
  invFun w := (⟨w.val % 2, Nat.mod_lt _ (by decide)⟩, ⟨w.val / 2, show w.val / 2 < 16 by omega⟩)
  left_inv p := by
    have h0 : p.1.val < 2 := p.1.isLt
    refine Prod.ext (Fin.ext ?_) (Fin.ext ?_)
    · show (2 * p.2.val + p.1.val) % 2 = p.1.val
      omega
    · show (2 * p.2.val + p.1.val) / 2 = p.2.val
      omega
  right_inv w := by
    refine Fin.ext ?_
    show 2 * (w.val / 2) + w.val % 2 = w.val
    omega

theorem h32 : 0 < 32 := by decide
/-- A tile's share of what all tiles read. -/
abbrev qT (p : Tl) : PosShare TreeShare := pieceOf fullShare 32 h32 (wE p)

section Run

variable (m : (ℓ : Loc nD τ sig) → Buf (Elt F) ℓ) (ρ : Dev nD → PrngReg) (A : Dev nD → Arrays (F := F))

abbrev xLoc (d : Dev nD) : Loc nD τ sig := (SparseCore.T d).loc main_arg0
abbrev a1Loc (d : Dev nD) : Loc nD τ sig := (SparseCore.T d).loc main_arg1
abbrev tbLoc (d : Dev nD) : Loc nD τ sig := (SparseCore.T d).loc main_v2
abbrev csLoc (d : Dev nD) : Loc nD τ sig := (SparseCore.T d).loc main_c
abbrev cdLoc (d : Dev nD) : Loc nD τ sig := (SparseCore.T d).loc main_c_0
abbrev tdLoc (d : Dev nD) : Loc nD τ sig := (SparseCore.T d).loc main_c_1
abbrev c2Loc (d : Dev nD) : Loc nD τ sig := (SparseCore.T d).loc main_c_2
abbrev oLoc (d : Dev nD) : Loc nD τ sig := (SparseCore.T d).loc main_v3

/-- The output's elements a tile writes. -/
def outT (d : Dev nD) (p : Tl) : Finset (Idx (oLoc d)) :=
  rowsUnion (thr d (coordsV p.1 p.2)) oA.view hg.axis (rowW (A d) (wL (coordsV p.1 p.2)))

/-- What tile `p` is handed and brings back, the output at `g`. -/
def tIn (d : Dev nD) (g : Buf (Elt F) (oLoc d)) (p : Tl) : sProp 𝕄 := tileIn d (coordsV p.1 p.2) (A d) (qT p) g

/-- What the call takes and gives back, the output at `g`. -/
def callPts (d : Dev nD) (g : Buf (Elt F) (oLoc d)) : sProp 𝕄 :=
  iprop((xLoc d ↦{fullShare} (A d).x) ∗ (tbLoc d ↦{fullShare} (A d).tb) ∗ (csLoc d ↦{fullShare} (A d).cs)
    ∗ (cdLoc d ↦{fullShare} (A d).cd) ∗ (tdLoc d ↦{fullShare} (A d).td) ∗ (oLoc d ↦{fullShare} g))

theorem tIn_eq (d : Dev nD) (g : Buf (Elt F) (oLoc d)) (p : Tl) : (tIn A d g p : sProp 𝕄)
    = iprop((xLoc d ↦{qT p} (A d).x) ∗ (tbLoc d ↦{qT p} (A d).tb) ∗ (csLoc d ↦{qT p} (A d).cs)
      ∗ (cdLoc d ↦{qT p} (A d).cd) ∗ (tdLoc d ↦{qT p} (A d).td) ∗ (oLoc d ↦[outT A d p]{fullShare} g)) := rfl

/-- An array read by every tile, in the tiles' shares. -/
theorem share_all {ℓ : Loc nD τ sig} (f : Buf (Elt F) ℓ) :
    (ℓ ↦{fullShare} f : sProp 𝕄) = bigSep Finset.univ fun p : Tl => ℓ ↦{qT p} f := by
  rw [pointsTo_piecesOf Finset.univ f h32 fullShare, BI.bigSep_univ_equiv wE]

/-- The rows of the tiles are apart, and they are all. -/
def Apart : Prop := ∀ d w w', w ≠ w' → ∀ p p', rowW (A d) w p ≠ rowW (A d) w' p'
def Covers : Prop := ∀ d (r : ℕ), r < 100000 → ∃ w p, (rowW (A d) w p).val = r

/-- The row of an element of an output row. -/
theorem row_emb (d : Dev nD) (L : grid0.Coords) (r : Fin (S100000x128.size hg.axis)) (y : (S100000x128.rowShape hg.axis).Idx) :
    ((show S100000x128.Idx from (rowView (thr d L) oA.view hg.axis r).emb y) (0 : Fin 2)).val = r.val := by
  have h0 : (y (0 : Fin 2)).val < 1 := (y (0 : Fin 2)).isLt
  show 0 + 1 * (r.val + 1 * (y (0 : Fin 2)).val) = r.val
  omega
theorem mem_row (d : Dev nD) (L : grid0.Coords) (r : Fin (S100000x128.size hg.axis)) (i : S100000x128.Idx) (h : (i (0 : Fin 2)).val = r.val) :
    (i : Idx (oA.view.loc (thr d L))) ∈ (rowView (thr d L) oA.view hg.axis r).set := by
  refine Finset.mem_map.2 ⟨show (S100000x128.rowShape hg.axis).Idx from fun b : Fin 2 => match b with
    | 0 => (⟨0, by decide⟩ : Fin 1)
    | 1 => (i (1 : Fin 2) : Fin 128), Finset.mem_univ _, ?_⟩
  funext b
  refine Fin.ext ?_
  match b with
  | 0 =>
    show 0 + 1 * (r.val + 1 * 0) = (i (0 : Fin 2)).val
    omega
  | 1 =>
    show 0 + 1 * (0 + 1 * (i (1 : Fin 2)).val) = (i (1 : Fin 2)).val
    omega

/-- The row coordinate of an element of the output. -/
def rowOf (d : Dev nD) (i : Idx (oLoc d)) : ℕ := ((show S100000x128.Idx from i) (0 : Fin 2)).val
theorem rowOf_lt (d : Dev nD) (i : Idx (oLoc d)) : rowOf d i < 100000 := ((show S100000x128.Idx from i) (0 : Fin 2)).isLt

set_option maxRecDepth 100000 in
theorem mem_outT (d : Dev nD) (p : Tl) (i : Idx (oLoc d)) (h : i ∈ outT A d p) : ∃ e, rowOf d i = (rowW (A d) (wE p) e).val := by
  obtain ⟨e, he⟩ := exists_of_mem_rowsUnion (thr d (coordsV p.1 p.2)) oA.view hg.axis (rowW (A d) (wL (coordsV p.1 p.2))) i h
  refine ⟨e, ?_⟩
  obtain ⟨y, _, rfl⟩ := Finset.mem_map.1 he
  exact row_emb d (coordsV p.1 p.2) (rowW (A d) (wL (coordsV p.1 p.2)) e) y

set_option maxRecDepth 100000 in
theorem outT_mem (d : Dev nD) (p : Tl) (i : Idx (oLoc d)) (e : Ent) (h : rowOf d i = (rowW (A d) (wE p) e).val) : i ∈ outT A d p :=
  subset_rowsUnion (thr d (coordsV p.1 p.2)) oA.view hg.axis (rowW (A d) (wL (coordsV p.1 p.2))) e
    (mem_row d (coordsV p.1 p.2) (rowW (A d) (wL (coordsV p.1 p.2)) e) i h)

set_option maxRecDepth 100000 in
theorem outT_disjoint (hA : Apart A) (d : Dev nD) : ∀ p ∈ (Finset.univ : Finset Tl), ∀ p' ∈ (Finset.univ : Finset Tl), p ≠ p' →
    Disjoint (outT A d p) (outT A d p') := by
  intro p _ p' _ hp
  refine Finset.disjoint_left.2 fun i hi hi' => ?_
  obtain ⟨e, he⟩ := mem_outT A d p i hi
  obtain ⟨e', he'⟩ := mem_outT A d p' i hi'
  exact hA d (wE p) (wE p') (fun h => hp (wE.injective h)) e e' (Fin.ext (he.symm.trans he'))

theorem named (hC : Covers A) (d : Dev nD) (r : ℕ) (hr : r < 100000) : ∃ (p : Tl) (e : Ent), r = (rowW (A d) (wE p) e).val := by
  obtain ⟨w, e, h⟩ := hC d r hr
  exact ⟨wE.symm w, e, by rw [wE.apply_symm_apply]; exact h.symm⟩
set_option maxRecDepth 100000 in
theorem outT_some (hC : Covers A) (d : Dev nD) (i : Idx (oLoc d)) : ∃ p : Tl, i ∈ outT A d p :=
  (named A hC d (rowOf d i) (rowOf_lt d i)).elim fun p h => ⟨p, h.elim fun e h => outT_mem A d p i e h⟩
theorem outT_cover (hC : Covers A) (d : Dev nD) : (Finset.univ : Finset Tl).biUnion (outT A d) = Finset.univ := by
  ext i
  simp only [Finset.mem_biUnion, Finset.mem_univ, true_and, iff_true]
  exact outT_some A hC d i

theorem out_all (hA : Apart A) (hC : Covers A) (d : Dev nD) (g : Buf (Elt F) (oLoc d)) :
    (oLoc d ↦{fullShare} g : sProp 𝕄) = bigSep Finset.univ fun p : Tl => oLoc d ↦[outT A d p]{fullShare} g := by
  rw [← pointsTo_biUnion Finset.univ (ℓ := oLoc d) (outT A d) (outT_disjoint A hA d), outT_cover A hC d]; try rfl

variable [FloatOps F]

/-- The call's arrays are the tiles'. -/
theorem call_split (hA : Apart A) (hC : Covers A) (d : Dev nD) (g : Buf (Elt F) (oLoc d)) :
    (callPts A d g : sProp 𝕄) = bigSep Finset.univ fun c => bigSep Finset.univ fun i => tIn A d g (c, i) := by
  rw [← BI.bigSep_univ_prod (fun p : Tl => tIn A d g p)]
  simp only [tIn_eq]
  rw [bigSep_sep'', bigSep_sep'', bigSep_sep'', bigSep_sep'', bigSep_sep'']
  unfold callPts
  rw [share_all (ℓ := xLoc d) (A d).x, share_all (ℓ := tbLoc d) (A d).tb, share_all (ℓ := csLoc d) (A d).cs, share_all (ℓ := cdLoc d) (A d).cd,
    share_all (ℓ := tdLoc d) (A d).td, out_all A hA hC d g]

/-! ## The call's payments -/

def P : (K (F := F)).Pay (nD := nD) (Val := Elt F) (Name := ℕ) (U := UU) where
  st := fun q d c => match q with
    | 0 => bigSep Finset.univ fun i : Fin ((K (F := F)).nSub 0) => tIn A d (m (oLoc d)) (Fin.cast nCore_zero c, Fin.cast nSub_zero i)
  dn := fun q d c => match q with
    | 0 => bigSep Finset.univ fun i : Fin ((K (F := F)).nSub 0) => tIn A d (A d).G (Fin.cast nCore_zero c, Fin.cast nSub_zero i)
  go := fun q d c i => match q with
    | 0 => tIn A d (m (oLoc d)) (Fin.cast nCore_zero c, Fin.cast nSub_zero i)
  td := fun q d c i => match q with
    | 0 => tIn A d (A d).G (Fin.cast nCore_zero c, Fin.cast nSub_zero i)
  x := fun _ _ => iprop(emp)

instance tIn_storable (d : Dev nD) (g : Buf (Elt F) (oLoc d)) (p : Tl) : BI.Storable (upEmb : UEmb _ 𝕄) (tIn A d g p) := by
  rw [tIn_eq]; infer_instance

instance P_storable : (P (F := F) m A).IsStorable where
  st q d c := match q with
    | 0 => (inferInstance : BI.Storable (upEmb : UEmb _ 𝕄) (bigSep Finset.univ fun i : Fin ((K (F := F)).nSub 0) => tIn A d (m (oLoc d)) (Fin.cast nCore_zero c, Fin.cast nSub_zero i)))
  dn q d c := match q with
    | 0 => (inferInstance : BI.Storable (upEmb : UEmb _ 𝕄) (bigSep Finset.univ fun i : Fin ((K (F := F)).nSub 0) => tIn A d (A d).G (Fin.cast nCore_zero c, Fin.cast nSub_zero i)))
  go q d c i := match q with
    | 0 => (inferInstance : BI.Storable (upEmb : UEmb _ 𝕄) (tIn A d (m (oLoc d)) (Fin.cast nCore_zero c, Fin.cast nSub_zero i)))
  td q d c i := match q with
    | 0 => (inferInstance : BI.Storable (upEmb : UEmb _ 𝕄) (tIn A d (A d).G (Fin.cast nCore_zero c, Fin.cast nSub_zero i)))

/-! ## The obligation -/

theorem defs₀_vector (c : Fin τ.nSC) (s : Fin τ.nSub) :
    defs₀ (F := F) (.scVector c s) 0 () = SparseCore.onTile hcore0 hsub0 (fun c s => body (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m A) v₀ 0 := by
  intro d c i O W hO _ _
  simp only [show (P m A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (A d) (qT (⟨_, hci.1⟩, ⟨_, hci.2⟩)) facts O W hO (m (oLoc d))).trans
    (wp_mono frame _ _ fun _ => obl_post)

omit [FloatOps F] in
theorem keep (X Y : sProp 𝕄) : X ⊢ |={Set.univ}=> iprop(X ∗ (Y -∗ Y)) := by
  iintro H; imodintro
  isplitl [H]; · iexact H
  iintro H; iexact H

attribute [local irreducible] tIn in
theorem vecSplit : (K (F := F)).VecSplit' (P m A) 0 := by
  intro d c
  exact keep (F := F) _ _

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m A).x q thr) = bigSep Finset.univ fun _ => iprop(emp) from
    bigSep_congr fun _ _ => bigSep_univ_of_subsingleton (0 : Fin 1), bigSep_emp']
  iempintro

end Run

end Cert.Proof.KernelTile

end
-- ==== Proof.MainRun.lean ====
/-
  @main's run at any arrays of the call that are what @main has written: every run terminates with the arguments unchanged,
  the results at the rows the lists give and at the constant list, and every counter at zero.
-/
module

public import proofs.«01_k».proof.Proof.Launch

@[expose] public section

noncomputable section

namespace Cert.Proof.KernelTile

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_seq after seq)

variable {F : FTy → Type} [FloatOps F]

local notation "𝕄" => MT nD τ sig (HIx 1) (Elt F) ℕ UU ℕ

/-! ## @main's operations -/

abbrev dr (r : Ref sig .tc) : DevRef τ sig := Proc.devRef .tc r

/-- The operations before the call. -/
def ops : List (HloOp τ sig (Elt F)) :=
  [StableHlo.nullary main_c (fun i => lit0 (S32x13x128.rowMajor i)),
   StableHlo.nullary main_c_0 (fun i => lit1 (S32x13x128.rowMajor i)),
   StableHlo.nullary main_c_1 (fun i => lit2 (S32x12x128.rowMajor i)),
   StableHlo.nullary main_c_2 (fun i => lit3 (S50000.rowMajor i)),
   StableHlo.reshape main_arg1 main_v0 (rfl : (.f32 : EltTy) = .f32) shapeCasts_S1x128_S1x1x1x128,
   StableHlo.unary main_v0 main_v1 (broadcastInDim S128x1x1x128 ![0, 1, 2, 3] bcast_S1x1x1x128_S128x1x1x128_0_1_2_3 :
     (⟨S1x1x1x128, .f32⟩ : BufTy).Contents (Elt F) → (⟨S128x1x1x128, .f32⟩ : BufTy).Contents (Elt F)),
   StableHlo.reshape main_v1 main_v2 (rfl : (.f32 : EltTy) = .f32) shapeCasts_S128x1x1x128_S128x128]

theorem main_eq (d : Dev nD) : (main (F := F) d) = seq (ops (F := F)) >>= fun _ => (K (F := F)).run d 0 >>= fun _ => pure ⟨⟩ := by
  simp only [main, ops, seq, bind_assoc, pure_bind]

/-- The arrays @main names. -/
abbrev S10 : Finset (DevRef τ sig) :=
  {dr main_arg0, dr main_arg1, dr main_c, dr main_c_0, dr main_c_1, dr main_c_2, dr main_v0, dr main_v1, dr main_v2, dr main_v3}

theorem ops_sub : ∀ op ∈ ops (F := F), op.bufs ⊆ S10 := by
  intro op hop
  simp only [ops, List.mem_cons, List.not_mem_nil, or_false] at hop
  rcases hop with rfl | rfl | rfl | rfl | rfl | rfl | rfl
  · exact show ({dr main_c} : Finset (DevRef τ sig)) ⊆ S10 by decide
  · exact show ({dr main_c_0} : Finset (DevRef τ sig)) ⊆ S10 by decide
  · exact show ({dr main_c_1} : Finset (DevRef τ sig)) ⊆ S10 by decide
  · exact show ({dr main_c_2} : Finset (DevRef τ sig)) ⊆ S10 by decide
  · exact show ({dr main_arg1, dr main_v0} : Finset (DevRef τ sig)) ⊆ S10 by decide
  · exact show ({dr main_v0, dr main_v1} : Finset (DevRef τ sig)) ⊆ S10 by decide
  · exact show ({dr main_v1, dr main_v2} : Finset (DevRef τ sig)) ⊆ S10 by decide

theorem ops_fresh : ∀ op ∈ ops (F := F), op.fresh = ∅ := by
  intro op hop
  simp only [ops, List.mem_cons, List.not_mem_nil, or_false] at hop
  rcases hop with rfl | rfl | rfl | rfl | rfl | rfl | rfl <;> rfl

section Run

variable (m : (ℓ : Loc nD τ sig) → Buf (Elt F) ℓ) (ρ : Dev nD → PrngReg) (A : Dev nD → Arrays (F := F))

omit [FloatOps F] in
theorem held_S10 (d : Dev nD) (W : Valuation τ sig (Elt F)) :
    (StableHlo.held (SparseCore.T d) S10 W : sProp 𝕄)
      = iprop((xLoc d ↦{fullShare} W (dr main_arg0)) ∗ (a1Loc d ↦{fullShare} W (dr main_arg1)) ∗ (csLoc d ↦{fullShare} W (dr main_c))
          ∗ (cdLoc d ↦{fullShare} W (dr main_c_0)) ∗ (tdLoc d ↦{fullShare} W (dr main_c_1)) ∗ (c2Loc d ↦{fullShare} W (dr main_c_2))
          ∗ ((SparseCore.T d).loc main_v0 ↦{fullShare} W (dr main_v0))
          ∗ ((SparseCore.T d).loc main_v1 ↦{fullShare} W (dr main_v1)) ∗ (tbLoc d ↦{fullShare} W (dr main_v2)) ∗ oLoc d ↦{fullShare} W (dr main_v3)) := by
  unfold StableHlo.held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (a1Loc d ↦{fullShare} W main_arg1) ∗ (csLoc d ↦{fullShare} W main_c)
          ∗ (cdLoc d ↦{fullShare} W main_c_0) ∗ (tdLoc d ↦{fullShare} W main_c_1) ∗ (c2Loc d ↦{fullShare} W main_c_2)
          ∗ ((SparseCore.T d).loc main_v0 ↦{fullShare} W main_v0)
          ∗ ((SparseCore.T d).loc main_v1 ↦{fullShare} W main_v1) ∗ (tbLoc d ↦{fullShare} W main_v2) ∗ oLoc d ↦{fullShare} W main_v3) := by
  unfold unscopedBufs
  rw [show (Finset.univ.filter fun b : Ref sig .tc => ¬ b.isScoped)
      = {main_arg0, main_arg1, main_c, main_c_0, main_c_1, main_c_2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

/-- The launch contents, and those before the call. -/
def V0 (d : Dev nD) : Valuation τ sig (Elt F) := fun b => m (d, b)
def V7 (d : Dev nD) : Valuation τ sig (Elt F) := after (ops (F := F)) (V0 m d)

theorem unscoped_held (d : Dev nD) : (unscopedBufs d (fun b => m ((SparseCore.T d).loc b)) : sProp 𝕄) = StableHlo.held (SparseCore.T d) S10 (V0 m d) := by
  rw [unscopedBufs_eq, held_S10]; rfl

/-- What the run asks of the call's arrays: they are what @main has written. -/
structure Written : Prop where
  apart : Apart A
  covers : Covers A
  x : ∀ d, V7 m d (dr main_arg0) = (A d).x
  tb : ∀ d, V7 m d (dr main_v2) = (A d).tb
  cs : ∀ d, V7 m d (dr main_c) = (A d).cs
  cd : ∀ d, V7 m d (dr main_c_0) = (A d).cd
  td : ∀ d, V7 m d (dr main_c_1) = (A d).td
  o : ∀ d, V7 m d (dr main_v3) = m (oLoc d)

theorem st0_eq (d : Dev nD) : (bigSep Finset.univ fun c : Fin ((K (F := F)).nCore 0) => (P m A).st 0 d c)
    = bigSep Finset.univ fun c => bigSep Finset.univ fun i => tIn A d (m (oLoc d)) (c, i) := rfl
theorem dn0_eq (d : Dev nD) : (bigSep Finset.univ fun c : Fin ((K (F := F)).nCore 0) => (P m A).dn 0 d c)
    = bigSep Finset.univ fun c => bigSep Finset.univ fun i => tIn A d (A d).G (c, i) := rfl

/-- What @main leaves the claims. -/
abbrev FIN (d : Dev nD) : sProp 𝕄 :=
  iprop((xLoc d ↦{fullShare} (A d).x) ∗ (a1Loc d ↦{fullShare} V7 m d (dr main_arg1)) ∗ (oLoc d ↦{fullShare} (A d).G)
    ∗ (c2Loc d ↦{fullShare} V7 m d (dr main_c_2)))

set_option backward.isDefEq.respectTransparency.types false in
/-- @main on device `d`'s TensorCore. -/
theorem hmain (hW : Written m A) (κ : GSem nD τ sig → ℕ) (d : Dev nD) :
    iprop((K (F := F)).ctx EH (P m A) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m A d ∗ (K (F := F)).tcEnd d) := by
  unfold SparseCore.Cfg.tcRes SparseCore.Cfg.tcEnd
  rw [unscoped_held, main_eq]
  iintro ⟨#Hctx, Hst, ⟨Hb, Hheld, Hts, -⟩, -⟩
  have H := fun k => wp_seq (defs := (K (F := F)).defs (D (F := F))) (Ix := HIx 1) (Name := ℕ) (U := UU) (Lvl := ℕ) 𝒱 none Set.univ d S10 (β := PUnit) k
    (K := fun _ => iprop((K (F := F)).tcSt EH d 1 ∗ FIN m A d ∗ (K (F := F)).tcEnd d)) (ops (F := F)) ops_sub ops_fresh (V0 m d)
  iapply (H _) $$ [Hb Hheld]
  · isplitl [Hb] <;> iassumption
  iintro ⟨Hb, Hheld⟩
  ihave Hh := (Entails.of_eq (show (StableHlo.held (d.tc : Thread nD τ) S10 (after (ops (F := F)) (V0 m d)) : sProp 𝕄) = _ from held_S10 (F := F) d (V7 m d))) $$ Hheld
  rw [hW.x d, hW.tb d, hW.cs d, hW.cd d, hW.td d, hW.o d]
  icases Hh with ⟨Hx, Ha, Hcs, Hcd, Htd, Hc2, -, -, Htb, Ho⟩
  rw [wp_bind]
  iapply ((K (F := F)).wp_run (D (F := F)) 𝒱 (EH := EH) (P := P m A) κ d 0) $$ [Hst Hx Htb Hcs Hcd Htd Ho Ha Hc2 Hb Hts]
  isplitr; · iexact Hctx
  isplitl [Hst]; · iexact Hst
  isplitl [Hx Htb Hcs Hcd Htd Ho]
  · rw [st0_eq, ← call_split A hW.apart hW.covers d]
    unfold callPts
    isplitl [Hx]; · iexact Hx
    isplitl [Htb]; · iexact Htb
    isplitl [Hcs]; · iexact Hcs
    isplitl [Hcd]; · iexact Hcd
    isplitl [Htd]; · iexact Htd
    iexact Ho
  iintro ⟨Hst, Hdn⟩
  ihave Hdn' := (Entails.of_eq ((dn0_eq m A d).trans (call_split A hW.apart hW.covers d (A d).G).symm)) $$ Hdn
  unfold callPts
  icases Hdn' with ⟨Hx, -, -, -, -, Ho⟩
  rw [wp_pure]
  imodintro
  isplitl [Hst]; · iexact Hst
  isplitr [Hb Hts]
  · isplitl [Hx]; · iexact Hx
    isplitl [Ha]; · iexact Ha
    isplitl [Ho]; · iexact Ho
    iexact Hc2
  unfold SparseCore.Cfg.tcEnd
  isplitl [Hb] <;> iassumption

/-- What the claims read of device `d`'s final state. -/
def fq (d : Dev nD) (s' : Phys nD τ sig (Elt F)) : Prop :=
  s'.mem.mem (xLoc d) = (A d).x ∧ s'.mem.mem (a1Loc d) = V7 m d (dr main_arg1) ∧ s'.mem.mem (oLoc d) = (A d).G
    ∧ s'.mem.mem (c2Loc d) = V7 m d (dr main_c_2)

omit [FloatOps F] in
/-- An array held whole is read off the final state, and is kept. -/
theorem read_whole (s' : Phys nD τ sig (Elt F)) (ℓ : Loc nD τ sig) (f : Buf (Elt F) ℓ) (R : sProp 𝕄) :
    iprop((ℓ ↦{fullShare} f) ∗ R ∗ SI s') ⊢ iprop(⌜s'.mem.mem ℓ = f⌝ ∗ R ∗ SI s') := by
  iintro ⟨H, HR, HSI⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr; · ipureintro; exact funext fun i => h1 i (Finset.mem_univ i)
  isplitl [HR]; · iexact HR
  iexact HSI

omit [FloatOps F] in
/-- Four arrays held whole are read off the final state. -/
theorem read_four (d : Dev nD) (s' : Phys nD τ sig (Elt F)) (f0 : Buf (Elt F) (xLoc d)) (f1 : Buf (Elt F) (a1Loc d)) (f2 : Buf (Elt F) (oLoc d))
    (f3 : Buf (Elt F) (c2Loc d)) :
    (iprop(((xLoc d ↦{fullShare} f0) ∗ (a1Loc d ↦{fullShare} f1) ∗ (oLoc d ↦{fullShare} f2) ∗ (c2Loc d ↦{fullShare} f3)) ∗ SI s') : sProp 𝕄)
      ⊢ ⌜s'.mem.mem (xLoc d) = f0 ∧ s'.mem.mem (a1Loc d) = f1 ∧ s'.mem.mem (oLoc d) = f2 ∧ s'.mem.mem (c2Loc d) = f3⌝ := by
  iintro ⟨⟨H0, H1, H2, H3⟩, HSI⟩
  ihave H := (read_whole s' (xLoc d) f0 iprop(emp)) $$ [H0 HSI]
  · isplitl [H0]; · iexact H0
    isplitr; · iempintro
    iexact HSI
  icases H with ⟨%h0, -, HSI⟩
  ihave H := (read_whole s' (a1Loc d) f1 iprop(emp)) $$ [H1 HSI]
  · isplitl [H1]; · iexact H1
    isplitr; · iempintro
    iexact HSI
  icases H with ⟨%h1, -, HSI⟩
  ihave H := (read_whole s' (oLoc d) f2 iprop(emp)) $$ [H2 HSI]
  · isplitl [H2]; · iexact H2
    isplitr; · iempintro
    iexact HSI
  icases H with ⟨%h2, -, HSI⟩
  ihave H := (read_whole s' (c2Loc d) f3 iprop(emp)) $$ [H3 HSI]
  · isplitl [H3]; · iexact H3
    isplitr; · iempintro
    iexact HSI
  icases H with ⟨%h3, -, HSI⟩
  ipureintro; exact ⟨h0, h1, h2, h3⟩

theorem hfin (d : Dev nD) (s' : Phys nD τ sig (Elt F)) : iprop(FIN m A d ∗ SI s') ⊢ (⌜fq m A d s'⌝ : sProp 𝕄) :=
  read_four d s' _ _ _ _

/-! ## The run -/

def QC : PUnit × MemSt nD τ sig (Elt F) → Prop := fun r =>
  (∀ d : Dev nD, r.2.mem (xLoc d) = (A d).x ∧ r.2.mem (a1Loc d) = V7 m d (dr main_arg1) ∧ r.2.mem (oLoc d) = (A d).G
    ∧ r.2.mem (c2Loc d) = V7 m d (dr main_c_2)) ∧ r.2.sem = fun _ => 0

theorem run_main [∀ e, Nonempty (Elt F e)] (hW : Written m A) :
    θ_run (Cert.Kernel.defs (F := F)) (Cert.Kernel.threads (F := F)) ⟨m, fun _ => 0, ρ⟩ (QC m A) :=
  SparseCore.Cfg.θ_run_sc_quiescent (K := K (F := F)) (D := D (F := F)) (𝒱 := 𝒱) (EH := EH) (P := P m A) (A := ∅) facts v₀
    (fun q hq => match q with | 0 => nomatch hq)
    (fun q _ => match q with | 0 => tileObl m A)
    (fun q _ => match q with | 0 => SparseCore.Cfg.VecSplit.of_plain (vecSplit m A))
    m ρ main (fun _ => iprop(emp)) (FIN m A) (u₀ (F := F)) (sep_elim_left.trans (hu₀ m A)) (hmain m ρ A hW) (fq m A) (hfin m A) (QC m A) (fun _ h hz => ⟨h, hz⟩)

end Run

end Cert.Proof.KernelTile

end
-- ==== Proof.Scan.lean ====
/-
  Bitmaps of a table's words, computed by halving: the union of the bits a function gives on an interval.
-/
module

public import proofs.«01_k».proof.Defs

@[expose] public section

namespace Cert.Proof.Scan

/-- The union of the bits `f` gives at `a, …, a + 2 ^ d - 1`, those from `hi` on left out. -/
def bits (f : ℕ → ℕ) (hi d : ℕ) : ℕ → ℕ :=
  Nat.rec (motive := fun _ => ℕ → ℕ) (fun a => cond (Nat.ble hi a) 0 (f a)) (fun d ih a => Nat.lor (ih a) (ih (Nat.add a (Nat.pow 2 d)))) d

/-- A bit of the union is a bit of some member. -/
theorem testBit_bits (f : ℕ → ℕ) (hi : ℕ) (r : ℕ) : ∀ d a,
    (bits f hi d a).testBit r = true ↔ ∃ e, a ≤ e ∧ e < a + 2 ^ d ∧ e < hi ∧ (f e).testBit r = true := by
  intro d
  induction d with
  | zero =>
    intro a
    show (cond (Nat.ble hi a) 0 (f a)).testBit r = true ↔ _
    by_cases h : hi ≤ a
    · rw [Nat.ble_eq_true_of_le h]
      simp only [cond_true, Nat.zero_testBit, Bool.false_eq_true, false_iff, not_exists]
      rintro e ⟨h1, h2, h3, -⟩
      omega
    · rw [show Nat.ble hi a = false from by
        rcases hb : Nat.ble hi a with _ | _
        · rfl
        · exact absurd (Nat.le_of_ble_eq_true hb) h]
      simp only [cond_false]
      constructor
      · intro ht; exact ⟨a, le_refl _, by simp, by omega, ht⟩
      · rintro ⟨e, h1, h2, -, ht⟩
        have : e = a := by simp at h2; omega
        rwa [← this]
  | succ d ih =>
    intro a
    show (bits f hi d a ||| bits f hi d (a + 2 ^ d)).testBit r = true ↔ _
    rw [Nat.testBit_or, Bool.or_eq_true, ih, ih]
    have hp : 2 ^ (d + 1) = 2 ^ d + 2 ^ d := by rw [pow_succ]; omega
    constructor
    · rintro (⟨e, h1, h2, h3⟩ | ⟨e, h1, h2, h3⟩)
      · exact ⟨e, h1, by omega, h3⟩
      · exact ⟨e, by omega, by omega, h3⟩
    · rintro ⟨e, h1, h2, h3⟩
      by_cases h : e < a + 2 ^ d
      · exact .inl ⟨e, h1, h, h3⟩
      · exact .inr ⟨e, by omega, by omega, h3⟩

end Cert.Proof.Scan
-- ==== Proof.Tables.lean ====
/-
  The program's tables of rows, and the check of one interval of them.

  The source rows `sW`, the rows `cW` they are copied to and the rows `tW` that take the token, by the entry's number. Both
  target lists are sorted, with repetitions only where a tile's list is filled up. The rows `0 … 99999` are cut into
  intervals; the entries of an interval are consecutive in each list, and the check of one interval says that their bitmaps
  are disjoint and together the whole interval, that each entry is followed by a larger row or by itself again in the same
  tile's list, and that the source rows are in range.
-/
module

public import proofs.«01_k».proof.Kernel
public import proofs.«01_k».proof.Proof.Scan

@[expose] public section

namespace Cert.Proof.Tables

open Cert.Kernel Cert.Proof.Scan

/-- The source row, the target row, and the token row of an entry. -/
noncomputable abbrev sW (e : ℕ) : ℕ := (lit0t e).toNat
noncomputable abbrev cW (e : ℕ) : ℕ := (lit1t e).toNat
noncomputable abbrev tW (e : ℕ) : ℕ := (lit2t e).toNat

/-- Entry `e` is the last, or the next names a larger row, or the next is the same entry again in the same tile's list. -/
noncomputable def stepC (e : ℕ) : Bool :=
  cond (Nat.ble 53247 e) true (cond (Nat.blt (cW e) (cW (Nat.add e 1))) true
    (cond (Nat.beq (cW e) (cW (Nat.add e 1)))
      (cond (Nat.beq (sW e) (sW (Nat.add e 1))) (Nat.beq (Nat.div e 1664) (Nat.div (Nat.add e 1) 1664)) false) false))

/-- The same of the token rows. -/
noncomputable def stepT (e : ℕ) : Bool :=
  cond (Nat.ble 49151 e) true (cond (Nat.blt (tW e) (tW (Nat.add e 1))) true
    (cond (Nat.beq (tW e) (tW (Nat.add e 1))) (Nat.beq (Nat.div e 1536) (Nat.div (Nat.add e 1) 1536)) false))

/-- The bit of an entry's row; a bit outside all intervals if the entry fails its check. -/
noncomputable def bitC (e : ℕ) : ℕ :=
  cond (cond (stepC e) (Nat.blt (sW e) 100000) false) (Nat.shiftLeft 1 (cW e)) (Nat.shiftLeft 1 200000)
noncomputable def bitT (e : ℕ) : ℕ := cond (stepT e) (Nat.shiftLeft 1 (tW e)) (Nat.shiftLeft 1 200000)

/-- The check of the rows from `a` to `b`, whose entries are those from `i` to `i'` of the one list and from `j` to `j'` of the other. -/
noncomputable def chunkOK (a b i i' j j' : ℕ) : Bool :=
  cond (Nat.beq (Nat.lor (bits bitC i' 11 i) (bits bitT j' 11 j)) (Nat.sub (Nat.pow 2 b) (Nat.pow 2 a)))
    (Nat.beq (Nat.land (bits bitC i' 11 i) (bits bitT j' 11 j)) 0) false

/-- The first entry of each list that names row `2500 k` or a later one. -/
def firstC (k : ℕ) : ℕ :=
  [
    0, 1314, 2624, 3934, 5297, 6579, 7947, 9296, 10695, 12026, 13333, 14659, 15992, 17342,
    18659, 20048, 21337, 22682, 24052, 25393, 26696, 28017, 29371, 30688, 32008, 33348, 34643, 35986,
    37341, 38681, 40019, 41376, 42688, 44026, 45344, 46653, 47932, 49269, 50570, 51918, 53248].getD k 0
def firstT (k : ℕ) : ℕ :=
  [
    0, 1186, 2450, 3714, 4925, 6194, 7349, 8574, 9749, 10992, 12208, 13433, 14674, 15898,
    17155, 18289, 19551, 20781, 21986, 23220, 24440, 25671, 26892, 28150, 29405, 30588, 31845, 33078,
    34299, 35535, 36721, 37916, 39180, 40418, 41676, 42891, 44164, 45403, 46678, 47906, 49152].getD k 0

/-- The check of interval `k` of 2500 rows. -/
noncomputable def rowsOK (k : ℕ) : Bool :=
  chunkOK (Nat.mul 2500 k) (Nat.mul 2500 (Nat.succ k)) (firstC k) (firstC (Nat.succ k)) (firstT k) (firstT (Nat.succ k))

end Cert.Proof.Tables
-- ==== Proof.Interval0.lean ====
/-
  The rows from 0 to 12500.
-/
module

public import proofs.«01_k».proof.Proof.Tables

@[expose] public section

namespace Cert.Proof.Tables

set_option maxRecDepth 100000 in
set_option maxHeartbeats 4000000 in
/-- The tables pass the check at the rows from 0 to 12500. -/
theorem rows_0 : rowsOK 0 = true ∧ rowsOK 1 = true ∧ rowsOK 2 = true ∧ rowsOK 3 = true ∧ rowsOK 4 = true := by
  refine ⟨?_, ?_, ?_, ?_, ?_⟩ <;> decide +kernel

end Cert.Proof.Tables
-- ==== Proof.Interval1.lean ====
/-
  The rows from 12500 to 25000.
-/
module

public import proofs.«01_k».proof.Proof.Tables

@[expose] public section

namespace Cert.Proof.Tables

set_option maxRecDepth 100000 in
set_option maxHeartbeats 4000000 in
/-- The tables pass the check at the rows from 12500 to 25000. -/
theorem rows_1 : rowsOK 5 = true ∧ rowsOK 6 = true ∧ rowsOK 7 = true ∧ rowsOK 8 = true ∧ rowsOK 9 = true := by
  refine ⟨?_, ?_, ?_, ?_, ?_⟩ <;> decide +kernel

end Cert.Proof.Tables
-- ==== Proof.Interval2.lean ====
/-
  The rows from 25000 to 37500.
-/
module

public import proofs.«01_k».proof.Proof.Tables

@[expose] public section

namespace Cert.Proof.Tables

set_option maxRecDepth 100000 in
set_option maxHeartbeats 4000000 in
/-- The tables pass the check at the rows from 25000 to 37500. -/
theorem rows_2 : rowsOK 10 = true ∧ rowsOK 11 = true ∧ rowsOK 12 = true ∧ rowsOK 13 = true ∧ rowsOK 14 = true := by
  refine ⟨?_, ?_, ?_, ?_, ?_⟩ <;> decide +kernel

end Cert.Proof.Tables
-- ==== Proof.Interval3.lean ====
/-
  The rows from 37500 to 50000.
-/
module

public import proofs.«01_k».proof.Proof.Tables

@[expose] public section

namespace Cert.Proof.Tables

set_option maxRecDepth 100000 in
set_option maxHeartbeats 4000000 in
/-- The tables pass the check at the rows from 37500 to 50000. -/
theorem rows_3 : rowsOK 15 = true ∧ rowsOK 16 = true ∧ rowsOK 17 = true ∧ rowsOK 18 = true ∧ rowsOK 19 = true := by
  refine ⟨?_, ?_, ?_, ?_, ?_⟩ <;> decide +kernel

end Cert.Proof.Tables
-- ==== Proof.Interval4.lean ====
/-
  The rows from 50000 to 62500.
-/
module

public import proofs.«01_k».proof.Proof.Interval0

@[expose] public section

namespace Cert.Proof.Tables

set_option maxRecDepth 100000 in
set_option maxHeartbeats 4000000 in
/-- The tables pass the check at the rows from 50000 to 62500. -/
theorem rows_4 : rowsOK 20 = true ∧ rowsOK 21 = true ∧ rowsOK 22 = true ∧ rowsOK 23 = true ∧ rowsOK 24 = true := by
  refine ⟨?_, ?_, ?_, ?_, ?_⟩ <;> decide +kernel

end Cert.Proof.Tables
-- ==== Proof.Interval5.lean ====
/-
  The rows from 62500 to 75000.
-/
module

public import proofs.«01_k».proof.Proof.Interval1

@[expose] public section

namespace Cert.Proof.Tables

set_option maxRecDepth 100000 in
set_option maxHeartbeats 4000000 in
/-- The tables pass the check at the rows from 62500 to 75000. -/
theorem rows_5 : rowsOK 25 = true ∧ rowsOK 26 = true ∧ rowsOK 27 = true ∧ rowsOK 28 = true ∧ rowsOK 29 = true := by
  refine ⟨?_, ?_, ?_, ?_, ?_⟩ <;> decide +kernel

end Cert.Proof.Tables
-- ==== Proof.Interval6.lean ====
/-
  The rows from 75000 to 87500.
-/
module

public import proofs.«01_k».proof.Proof.Interval2

@[expose] public section

namespace Cert.Proof.Tables

set_option maxRecDepth 100000 in
set_option maxHeartbeats 4000000 in
/-- The tables pass the check at the rows from 75000 to 87500. -/
theorem rows_6 : rowsOK 30 = true ∧ rowsOK 31 = true ∧ rowsOK 32 = true ∧ rowsOK 33 = true ∧ rowsOK 34 = true := by
  refine ⟨?_, ?_, ?_, ?_, ?_⟩ <;> decide +kernel

end Cert.Proof.Tables
-- ==== Proof.Interval7.lean ====
/-
  The rows from 87500 to 100000.
-/
module

public import proofs.«01_k».proof.Proof.Interval3

@[expose] public section

namespace Cert.Proof.Tables

set_option maxRecDepth 100000 in
set_option maxHeartbeats 4000000 in
/-- The tables pass the check at the rows from 87500 to 100000. -/
theorem rows_7 : rowsOK 35 = true ∧ rowsOK 36 = true ∧ rowsOK 37 = true ∧ rowsOK 38 = true ∧ rowsOK 39 = true := by
  refine ⟨?_, ?_, ?_, ?_, ?_⟩ <;> decide +kernel

end Cert.Proof.Tables
-- ==== Proof.TableFacts.lean ====
/-
  What the tables of rows say, from the check of their intervals: every word names a row, an output row is written from one
  source only and by one tile only, and every output row is written.
-/
module

public import proofs.«01_k».proof.Proof.Interval0
public import proofs.«01_k».proof.Proof.Interval1
public import proofs.«01_k».proof.Proof.Interval2
public import proofs.«01_k».proof.Proof.Interval3
public import proofs.«01_k».proof.Proof.Interval4
public import proofs.«01_k».proof.Proof.Interval5
public import proofs.«01_k».proof.Proof.Interval6
public import proofs.«01_k».proof.Proof.Interval7

@[expose] public section

namespace Cert.Proof.Tables

open Cert.Kernel Cert.Proof.Scan

/-- Every interval passes its check. -/
theorem rows_all (k : ℕ) (hk : k < 40) : rowsOK k = true := by
  have h0 := rows_0
  have h1 := rows_1
  have h2 := rows_2
  have h3 := rows_3
  have h4 := rows_4
  have h5 := rows_5
  have h6 := rows_6
  have h7 := rows_7
  have h : ∀ k : Fin 40, rowsOK k.val = true := by
    generalize rowsOK = R at *
    intro k
    fin_cases k <;> simp_all
  exact h ⟨k, hk⟩

/-- The bits from `a` to `b`. -/
theorem testBit_between (a b r : ℕ) (hab : a ≤ b) : (2 ^ b - 2 ^ a).testBit r = true ↔ a ≤ r ∧ r < b := by
  have hp : 2 ^ a - 1 + 1 = 2 ^ a := Nat.sub_add_cancel Nat.one_le_two_pow
  have hlt : 2 ^ a - 1 < 2 ^ b := by
    have := Nat.pow_le_pow_right (show 0 < 2 by decide) hab
    have := Nat.one_le_two_pow (n := a)
    omega
  have h := Nat.testBit_two_pow_sub_succ hlt r
  rw [hp, Nat.testBit_two_pow_sub_one] at h
  rw [h]
  simp only [Bool.and_eq_true, Bool.not_eq_true', decide_eq_true_eq, decide_eq_false_iff_not, Nat.not_lt]
  exact And.comm

/-- What the check of one interval says. -/
theorem chunk_spec (a b i i' j j' : ℕ) (hab : a ≤ b) (hi : i' ≤ i + 2048) (hj : j' ≤ j + 2048) (h : chunkOK a b i i' j j' = true) :
    (∀ r, a ≤ r → r < b → (∃ e, i ≤ e ∧ e < i' ∧ (bitC e).testBit r = true) ∨ ∃ e, j ≤ e ∧ e < j' ∧ (bitT e).testBit r = true)
    ∧ (∀ e r, i ≤ e → e < i' → (bitC e).testBit r = true → a ≤ r ∧ r < b)
    ∧ (∀ e r, j ≤ e → e < j' → (bitT e).testBit r = true → a ≤ r ∧ r < b)
    ∧ (∀ e e' r, i ≤ e → e < i' → j ≤ e' → e' < j' → (bitC e).testBit r = true → (bitT e').testBit r = true → False) := by
  unfold chunkOK at h
  have hC := fun r => testBit_bits bitC i' r 11 i
  have hT := fun r => testBit_bits bitT j' r 11 j
  generalize bits bitC i' 11 i = X at h hC
  generalize bits bitT j' 11 j = Y at h hT
  generalize bitC = fC at hC ⊢
  generalize bitT = fT at hT ⊢
  rw [Bool.cond_false_right, Bool.and_eq_true, Nat.beq_eq, Nat.beq_eq] at h
  obtain ⟨h1, h2⟩ := h
  have h1 : X ||| Y = 2 ^ b - 2 ^ a := h1
  have h2 : X &&& Y = 0 := h2
  have key : ∀ r, (X.testBit r = true ∨ Y.testBit r = true) ↔ a ≤ r ∧ r < b := fun r => by
    rw [← testBit_between a b r hab, ← h1, Nat.testBit_or, Bool.or_eq_true]
  have hp : (2 : ℕ) ^ 11 = 2048 := by norm_num
  rw [hp] at hC hT
  refine ⟨fun r h3 h4 => ?_, fun e r h3 h4 h5 => ?_, fun e r h3 h4 h5 => ?_, fun e e' r h3 h4 h5 h6 h7 h8 => ?_⟩
  · rcases (key r).2 ⟨h3, h4⟩ with h5 | h5
    · obtain ⟨e, he, _, he', hb⟩ := (hC r).1 h5
      exact .inl ⟨e, he, he', hb⟩
    · obtain ⟨e, he, _, he', hb⟩ := (hT r).1 h5
      exact .inr ⟨e, he, he', hb⟩
  · exact (key r).1 (.inl ((hC r).2 ⟨e, h3, by omega, h4, h5⟩))
  · exact (key r).1 (.inr ((hT r).2 ⟨e, h3, by omega, h4, h5⟩))
  · have h9 : (X &&& Y).testBit r = true := by
      rw [Nat.testBit_and, (hC r).2 ⟨e, h3, by omega, h4, h7⟩, (hT r).2 ⟨e', h5, by omega, h6, h8⟩]; rfl
    rw [h2, Nat.zero_testBit] at h9
    exact Bool.noConfusion h9

/-- The bits of a power of two written as a shift. -/
theorem testBit_shift (n r : ℕ) : (Nat.shiftLeft 1 n).testBit r = true ↔ r = n := by
  have h : Nat.shiftLeft 1 n = 2 ^ n := by
    show (1 : ℕ) <<< n = 2 ^ n
    rw [Nat.one_shiftLeft]
  rw [h, Nat.testBit_two_pow, decide_eq_true_eq]
  exact eq_comm

/-- The bit of an entry that passes or fails, over any check, bound and rows. -/
theorem testBit_cond (p q : Bool) (c N r : ℕ) :
    (cond (cond p q false) (Nat.shiftLeft 1 c) (Nat.shiftLeft 1 N)).testBit r = true ↔ r = cond (cond p q false) c N := by
  cases p <;> cases q <;> exact testBit_shift _ _

/-- The bit of an entry. -/
theorem testBit_bitC (e r : ℕ) : (bitC e).testBit r = true ↔ r = cond (cond (stepC e) (Nat.blt (sW e) 100000) false) (cW e) 200000 :=
  testBit_cond (stepC e) (Nat.blt (sW e) 100000) (cW e) 200000 r
theorem testBit_bitT (e r : ℕ) : (bitT e).testBit r = true ↔ r = cond (stepT e) (tW e) 200000 := by
  have h := testBit_cond (stepT e) true (tW e) 200000 r
  have h1 : cond (stepT e) true false = stepT e := by cases stepT e <;> rfl
  rw [h1] at h
  exact h

theorem cond_cases (p q : Bool) (c N r : ℕ) (h : r = cond (cond p q false) c N) : (p = true ∧ q = true ∧ c = r) ∨ r = N := by
  cases p <;> cases q
  · exact .inr h
  · exact .inr h
  · exact .inr h
  · exact .inl ⟨rfl, rfl, h.symm⟩

/-- An entry whose bit lies in the intervals passes its check. -/
theorem bitC_ok (e r : ℕ) (h : (bitC e).testBit r = true) : (stepC e = true ∧ sW e < 100000 ∧ cW e = r) ∨ r = 200000 :=
  (cond_cases _ _ _ _ _ ((testBit_bitC e r).1 h)).imp_left fun ⟨h1, h2, h3⟩ => ⟨h1, Nat.le_of_ble_eq_true h2, h3⟩
theorem bitT_ok (e r : ℕ) (h : (bitT e).testBit r = true) : (stepT e = true ∧ tW e = r) ∨ r = 200000 :=
  (cond_cases _ true _ _ _ (((testBit_bitT e r).1 h).trans (by cases stepT e <;> rfl))).imp_left fun ⟨h1, _, h3⟩ => ⟨h1, h3⟩
theorem bitC_some (e : ℕ) : ∃ r, (bitC e).testBit r = true := ⟨_, (testBit_bitC e _).2 rfl⟩
theorem bitT_some (e : ℕ) : ∃ r, (bitT e).testBit r = true := ⟨_, (testBit_bitT e _).2 rfl⟩

/-- A number below a sequence's last term lies between two consecutive terms. -/
theorem between (f : ℕ → ℕ) (n e : ℕ) (h0 : f 0 = 0) (he : e < f (n + 1)) : ∃ k ≤ n, f k ≤ e ∧ e < f (k + 1) := by
  induction n with
  | zero => exact ⟨0, le_rfl, by omega, he⟩
  | succ n ih =>
    by_cases h : e < f (n + 1)
    · obtain ⟨k, hk, h1, h2⟩ := ih h
      exact ⟨k, by omega, h1, h2⟩
    · exact ⟨n + 1, le_rfl, by omega, he⟩

theorem width : ∀ k < 40, firstC (k + 1) ≤ firstC k + 2048 ∧ firstT (k + 1) ≤ firstT k + 2048 := by decide
theorem rises : ∀ k < 40, firstC k ≤ firstC (k + 1) ∧ firstT k ≤ firstT (k + 1) := by decide
theorem ends : firstC 0 = 0 ∧ firstT 0 = 0 ∧ firstC 40 = 53248 ∧ firstT 40 = 49152 := by decide

attribute [local irreducible] firstC firstT bitC bitT

/-- The check of interval `k`. -/
theorem rows_spec (k : ℕ) (hk : k < 40) :
    (∀ r, 2500 * k ≤ r → r < 2500 * (k + 1) → (∃ e, firstC k ≤ e ∧ e < firstC (k + 1) ∧ (bitC e).testBit r = true)
      ∨ ∃ e, firstT k ≤ e ∧ e < firstT (k + 1) ∧ (bitT e).testBit r = true)
    ∧ (∀ e r, firstC k ≤ e → e < firstC (k + 1) → (bitC e).testBit r = true → 2500 * k ≤ r ∧ r < 2500 * (k + 1))
    ∧ (∀ e r, firstT k ≤ e → e < firstT (k + 1) → (bitT e).testBit r = true → 2500 * k ≤ r ∧ r < 2500 * (k + 1))
    ∧ (∀ e e' r, firstC k ≤ e → e < firstC (k + 1) → firstT k ≤ e' → e' < firstT (k + 1) → (bitC e).testBit r = true →
      (bitT e').testBit r = true → False) := chunk_spec (2500 * k) (2500 * (k + 1)) (firstC k) (firstC (k + 1)) (firstT k) (firstT (k + 1))
  (by omega) (width k hk).1 (width k hk).2 (rows_all k hk)

/-- An entry's interval, and what the check says of the entry. -/
theorem entryC (e : ℕ) (he : e < 53248) : ∃ k < 40, firstC k ≤ e ∧ e < firstC (k + 1) ∧ stepC e = true ∧ sW e < 100000
    ∧ 2500 * k ≤ cW e ∧ cW e < 2500 * (k + 1) ∧ (bitC e).testBit (cW e) = true := by
  obtain ⟨k, hk, h1, h2⟩ := between firstC 39 e ends.1 (by rw [ends.2.2.1]; exact he)
  have hk : k < 40 := by omega
  obtain ⟨r, hr⟩ := bitC_some e
  have hb := (rows_spec k hk).2.1 e r h1 h2 hr
  rcases bitC_ok e r hr with ⟨h3, h4, rfl⟩ | h3
  · exact ⟨k, hk, h1, h2, h3, h4, hb.1, hb.2, hr⟩
  · omega
theorem entryT (e : ℕ) (he : e < 49152) : ∃ k < 40, firstT k ≤ e ∧ e < firstT (k + 1) ∧ stepT e = true
    ∧ 2500 * k ≤ tW e ∧ tW e < 2500 * (k + 1) ∧ (bitT e).testBit (tW e) = true := by
  obtain ⟨k, hk, h1, h2⟩ := between firstT 39 e ends.2.1 (by rw [ends.2.2.2]; exact he)
  have hk : k < 40 := by omega
  obtain ⟨r, hr⟩ := bitT_some e
  have hb := (rows_spec k hk).2.2.1 e r h1 h2 hr
  rcases bitT_ok e r hr with ⟨h3, rfl⟩ | h3
  · exact ⟨k, hk, h1, h2, h3, hb.1, hb.2, hr⟩
  · omega

/-- Every word names a row. -/
theorem sW_lt (e : ℕ) (he : e < 53248) : sW e < 100000 := by
  obtain ⟨k, hk, _, _, _, h, _⟩ := entryC e he; exact h
theorem cW_lt (e : ℕ) (he : e < 53248) : cW e < 100000 := by
  obtain ⟨k, hk, _, _, _, _, _, h, _⟩ := entryC e he; omega
theorem tW_lt (e : ℕ) (he : e < 49152) : tW e < 100000 := by
  obtain ⟨k, hk, _, _, _, _, h, _⟩ := entryT e he; omega

/-- Every row is named. -/
theorem row_named (r : ℕ) (hr : r < 100000) : (∃ e < 53248, cW e = r) ∨ ∃ e < 49152, tW e = r := by
  have hk : r / 2500 < 40 := by omega
  have mono : ∀ (f : ℕ → ℕ) (n : ℕ), (∀ k < 40, f k ≤ f (k + 1)) → n ≤ 40 → f n ≤ f 40 := by
    intro f n h hn
    obtain ⟨m, hm⟩ : ∃ m, 40 = n + m := ⟨40 - n, by omega⟩
    rw [hm]
    have : ∀ j ≤ m, f n ≤ f (n + j) := by
      intro j
      induction j with
      | zero => intro _; exact le_rfl
      | succ j ih => intro hj; exact (ih (by omega)).trans (h (n + j) (by omega))
    exact this m le_rfl
  have hC := mono firstC (r / 2500 + 1) (fun k hk => (rises k hk).1) (by omega)
  have hT := mono firstT (r / 2500 + 1) (fun k hk => (rises k hk).2) (by omega)
  rw [ends.2.2.1] at hC
  rw [ends.2.2.2] at hT
  rcases (rows_spec (r / 2500) hk).1 r (by omega) (by omega) with ⟨e, h1, h2, h3⟩ | ⟨e, h1, h2, h3⟩
  · rcases bitC_ok e r h3 with ⟨_, _, h⟩ | h
    · exact .inl ⟨e, by omega, h⟩
    · omega
  · rcases bitT_ok e r h3 with ⟨_, h⟩ | h
    · exact .inr ⟨e, by omega, h⟩
    · omega

/-- A copied row takes no token. -/
theorem cW_ne_tW (e e' : ℕ) (he : e < 53248) (he' : e' < 49152) : cW e ≠ tW e' := by
  intro h
  obtain ⟨k, hk, h1, h2, _, _, h3, h4, h5⟩ := entryC e he
  obtain ⟨k', hk', h1', h2', _, h3', h4', h5'⟩ := entryT e' he'
  have hkk : k = k' := by omega
  subst hkk
  rw [← h] at h5'
  exact (rows_spec k hk).2.2.2 e e' (cW e) h1 h2 h1' h2' h5 h5'

/-- From one entry to a later one the row is larger, or the entries are the same and in the same tile's list. -/
theorem stepC_spec (e : ℕ) (he : e + 1 < 53248) :
    cW e < cW (e + 1) ∨ (cW e = cW (e + 1) ∧ sW e = sW (e + 1) ∧ e / 1664 = (e + 1) / 1664) := by
  obtain ⟨k, hk, _, _, h, _⟩ := entryC e (by omega)
  unfold stepC at h
  have e1 : Nat.add e 1 = e + 1 := rfl
  rw [e1] at h
  have h0 : Nat.ble 53247 e = false := by
    cases hh : Nat.ble 53247 e
    · rfl
    · have := Nat.le_of_ble_eq_true hh; omega
  rw [h0] at h
  have hd : ∀ n : ℕ, Nat.div n 1664 = n / 1664 := fun _ => rfl
  rw [hd, hd] at h
  generalize cW e = c at *
  generalize cW (e + 1) = c' at *
  generalize sW e = s at *
  generalize sW (e + 1) = s' at *
  generalize e / 1664 = w at *
  generalize (e + 1) / 1664 = w' at *
  cases h1 : Nat.blt c c'
  · rw [h1] at h
    cases h2 : Nat.beq c c'
    · rw [h2] at h; exact Bool.noConfusion h
    · rw [h2] at h
      cases h3 : Nat.beq s s'
      · rw [h3] at h; exact Bool.noConfusion h
      · rw [h3] at h
        exact .inr ⟨Nat.eq_of_beq_eq_true h2, Nat.eq_of_beq_eq_true h3, Nat.eq_of_beq_eq_true h⟩
  · exact .inl (Nat.le_of_ble_eq_true h1)
theorem stepT_spec (e : ℕ) (he : e + 1 < 49152) : tW e < tW (e + 1) ∨ (tW e = tW (e + 1) ∧ e / 1536 = (e + 1) / 1536) := by
  obtain ⟨k, hk, _, _, h, _⟩ := entryT e (by omega)
  unfold stepT at h
  have e1 : Nat.add e 1 = e + 1 := rfl
  rw [e1] at h
  have h0 : Nat.ble 49151 e = false := by
    cases hh : Nat.ble 49151 e
    · rfl
    · have := Nat.le_of_ble_eq_true hh; omega
  rw [h0] at h
  have hd : ∀ n : ℕ, Nat.div n 1536 = n / 1536 := fun _ => rfl
  rw [hd, hd] at h
  generalize tW e = c at *
  generalize tW (e + 1) = c' at *
  generalize e / 1536 = w at *
  generalize (e + 1) / 1536 = w' at *
  cases h1 : Nat.blt c c'
  · rw [h1] at h
    cases h2 : Nat.beq c c'
    · rw [h2] at h; exact Bool.noConfusion h
    · rw [h2] at h
      exact .inr ⟨Nat.eq_of_beq_eq_true h2, Nat.eq_of_beq_eq_true h⟩
  · exact .inl (Nat.le_of_ble_eq_true h1)

/-- Along a sequence that at each step rises or keeps all of `f`, `g` and `h`, equal values of `f` give equal values of `g` and `h`. -/
theorem climb (f g h : ℕ → ℕ) (N : ℕ) (hs : ∀ e, e + 1 < N → f e < f (e + 1) ∨ (f e = f (e + 1) ∧ g e = g (e + 1) ∧ h e = h (e + 1)))
    (e n : ℕ) (hn : e + n < N) : f e < f (e + n) ∨ (f e = f (e + n) ∧ g e = g (e + n) ∧ h e = h (e + n)) := by
  induction n with
  | zero => exact .inr ⟨rfl, rfl, rfl⟩
  | succ n ih =>
    have h1 := ih (by omega)
    have h2 := hs (e + n) (by omega)
    rw [Nat.add_assoc] at h2
    rcases h1 with h1 | ⟨h1, h3, h4⟩ <;> rcases h2 with h2 | ⟨h2, h5, h6⟩
    · exact .inl (h1.trans h2)
    · exact .inl (h2 ▸ h1)
    · exact .inl (h1 ▸ h2)
    · exact .inr ⟨h1.trans h2, h3.trans h5, h4.trans h6⟩
theorem climb_inj (f g h : ℕ → ℕ) (N : ℕ) (hs : ∀ e, e + 1 < N → f e < f (e + 1) ∨ (f e = f (e + 1) ∧ g e = g (e + 1) ∧ h e = h (e + 1)))
    (e e' : ℕ) (he : e < N) (he' : e' < N) (hf : f e = f e') : g e = g e' ∧ h e = h e' := by
  rcases le_total e e' with hl | hl
  · obtain ⟨n, rfl⟩ := Nat.exists_eq_add_of_le hl
    rcases climb f g h N hs e n he' with h1 | h1
    · omega
    · exact h1.2
  · obtain ⟨n, rfl⟩ := Nat.exists_eq_add_of_le hl
    rcases climb f g h N hs e' n he with h1 | h1
    · omega
    · exact ⟨h1.2.1.symm, h1.2.2.symm⟩

/-- Entries of one output row copy the same source row and are in the same tile's list. -/
theorem cW_inj (e e' : ℕ) (he : e < 53248) (he' : e' < 53248) (h : cW e = cW e') : sW e = sW e' ∧ e / 1664 = e' / 1664 :=
  climb_inj cW sW (fun e => e / 1664) 53248 stepC_spec e e' he he' h
theorem tW_inj (e e' : ℕ) (he : e < 49152) (he' : e' < 49152) (h : tW e = tW e') : e / 1536 = e' / 1536 :=
  (climb_inj tW (fun _ => 0) (fun e => e / 1536) 49152 (fun e he => (stepT_spec e he).imp_right fun h => ⟨h.1, rfl, h.2⟩) e e' he he' h).2

end Cert.Proof.Tables
-- ==== Proof.Values.lean ====
/-
  The launch arrays of the SparseCore call and the output they give: row `r` of the output is the row of `x` that the lists
  copy to it, or the token row where they copy none.
-/
module

public import proofs.«01_k».proof.Proof.TileRun
public import proofs.«01_k».proof.Proof.TableFacts

@[expose] public section

noncomputable section

namespace Cert.Proof.KernelTile

open Cert.Kernel Cert.Kernel.Gen Cert.Proof.Tables
open Idealize.ShloMosaic
open Idealize.ShloMosaic.ValueIdx (ix1 ix2 ix3 ix4 eq_ix1 eq_ix2 eq_ix3)

variable {F : FTy → Type}

/-! ## The lists, by entry -/

theorem lit0_at (n : Fin 53248) : (lit0 n).toNat = sW n.val := rfl
theorem lit1_at (n : Fin 53248) : (lit1 n).toNat = cW n.val := rfl
theorem lit2_at (n : Fin 49152) : (lit2 n).toNat = tW n.val := rfl

theorem rowMajorC (w : Fin 32) (k : Fin 13) (j : Fin 128) : (S32x13x128.rowMajor (ix3 w k j)).val = w.val * 1664 + k.val * 128 + j.val := by
  have h := Shape.rowMajor_val_three (d := ![32, 13, 128]) (ix3 w k j)
  refine h.trans ?_
  show (w.val * 13 + k.val) * 128 + j.val = _
  omega
theorem rowMajorT (w : Fin 32) (k : Fin 12) (j : Fin 128) : (S32x12x128.rowMajor (ix3 w k j)).val = w.val * 1536 + k.val * 128 + j.val := by
  have h := Shape.rowMajor_val_three (d := ![32, 12, 128]) (ix3 w k j)
  refine h.trans ?_
  show (w.val * 12 + k.val) * 128 + j.val = _
  omega

theorem cs_at (w : Fin 32) (k : Fin 13) (j : Fin 128) :
    (lit0 (S32x13x128.rowMajor (ix3 w k j))).toNat = sW (w.val * 1664 + k.val * 128 + j.val) :=
  (lit0_at _).trans (congrArg sW (rowMajorC w k j))
theorem cd_at (w : Fin 32) (k : Fin 13) (j : Fin 128) :
    (lit1 (S32x13x128.rowMajor (ix3 w k j))).toNat = cW (w.val * 1664 + k.val * 128 + j.val) :=
  (lit1_at _).trans (congrArg cW (rowMajorC w k j))
theorem td_at (w : Fin 32) (k : Fin 12) (j : Fin 128) :
    (lit2 (S32x12x128.rowMajor (ix3 w k j))).toNat = tW (w.val * 1536 + k.val * 128 + j.val) :=
  (lit2_at _).trans (congrArg tW (rowMajorT w k j))

theorem entC_lt (w : Fin 32) (k : Fin 13) (j : Fin 128) : w.val * 1664 + k.val * 128 + j.val < 53248 := by omega
theorem entT_lt (w : Fin 32) (k : Fin 12) (j : Fin 128) : w.val * 1536 + k.val * 128 + j.val < 49152 := by omega

/-! ## The token block -/

/-- The token rows as @main makes them: the token, repeated. -/
def tokens (tok : S1x128.Idx → Elt F .f32) : S128x128.Idx → Elt F .f32 :=
  shapeCast S128x128 (broadcastInDim S128x1x1x128 ![0, 1, 2, 3] bcast_S1x1x1x128_S128x1x1x128_0_1_2_3
    (shapeCast S1x1x1x128 tok shapeCasts_S1x128_S1x1x1x128)) shapeCasts_S128x1x1x128_S128x128

theorem tokens_at (tok : S1x128.Idx → Elt F .f32) (j c : Fin 128) : tokens tok (ix2 j c) = tok (ix2 (0 : Fin 1) c) := by
  unfold tokens shapeCast
  rw [show Shape.reshapeEquiv shapeCasts_S128x1x1x128_S128x128 (ix2 j c) = (ix4 j (0 : Fin 1) (0 : Fin 1) c : S128x1x1x128.Idx) from
    Shape.reshapeEquiv_eq_of_rowMajor _ (by
      refine (Shape.rowMajor_val_four (d := ![128, 1, 1, 128]) _).trans (Eq.trans ?_ (Shape.rowMajor_val_two (d := ![128, 128]) _).symm)
      show ((j.val * 1 + 0) * 1 + 0) * 128 + c.val = j.val * 128 + c.val
      omega)]
  unfold broadcastInDim
  refine congrArg tok (Shape.reshapeEquiv_eq_of_rowMajor _ ?_)
  refine (Shape.rowMajor_val_two (d := ![1, 128]) _).trans (Eq.trans ?_ (Shape.rowMajor_val_four (d := ![1, 1, 1, 128]) _).symm)
  show 0 * 128 + c.val = ((0 * 1 + 0) * 1 + 0) * 128 + c.val
  rfl

/-! ## The output -/

/-- The output: the copied row, or the token. -/
def rowsOut (x : S100000x128.Idx → Elt F .f32) (tok : S1x128.Idx → Elt F .f32) : S100000x128.Idx → Elt F .f32 := fun i =>
  open scoped Classical in
  if h : ∃ e, e < 53248 ∧ cW e = (i (0 : Fin 2)).val then x (ix2 (⟨sW h.choose, sW_lt _ h.choose_spec.1⟩ : Fin 100000) (i (1 : Fin 2)))
  else tok (ix2 (0 : Fin 1) (i (1 : Fin 2)))

theorem rowsOut_copied (x : S100000x128.Idx → Elt F .f32) (tok : S1x128.Idx → Elt F .f32) (e : ℕ) (he : e < 53248) (r s : Fin 100000)
    (hr : cW e = r.val) (hs : sW e = s.val) (c : Fin 128) : rowsOut x tok (ix2 r c) = x (ix2 s c) := by
  have h : ∃ e, e < 53248 ∧ cW e = ((ix2 r c : S100000x128.Idx) (0 : Fin 2)).val := ⟨e, he, hr⟩
  unfold rowsOut
  rw [dif_pos h]
  have h1 : sW h.choose = sW e := (cW_inj _ _ h.choose_spec.1 he (h.choose_spec.2.trans hr.symm)).1
  exact congrArg (fun s' : Fin 100000 => x (ix2 s' c)) (Fin.ext (h1.trans hs))

theorem rowsOut_token (x : S100000x128.Idx → Elt F .f32) (tok : S1x128.Idx → Elt F .f32) (r : Fin 100000)
    (hr : ∀ e < 53248, cW e ≠ r.val) (c : Fin 128) : rowsOut x tok (ix2 r c) = tok (ix2 (0 : Fin 1) c) := by
  unfold rowsOut
  rw [dif_neg (show ¬ ∃ e, e < 53248 ∧ cW e = ((ix2 r c : S100000x128.Idx) (0 : Fin 2)).val from fun ⟨e, he, h⟩ => hr e he h)]

theorem cs_lt (w : Fin 32) (k : Fin 13) (j : Fin 128) : (lit0 (S32x13x128.rowMajor (ix3 w k j))).toNat < 100000 :=
  (cs_at w k j).trans_lt (sW_lt _ (entC_lt w k j))
theorem cd_lt (w : Fin 32) (k : Fin 13) (j : Fin 128) : (lit1 (S32x13x128.rowMajor (ix3 w k j))).toNat < 100000 :=
  (cd_at w k j).trans_lt (cW_lt _ (entC_lt w k j))
theorem td_lt (w : Fin 32) (k : Fin 12) (j : Fin 128) : (lit2 (S32x12x128.rowMajor (ix3 w k j))).toNat < 100000 :=
  (td_at w k j).trans_lt (tW_lt _ (entT_lt w k j))

theorem token_row (x : S100000x128.Idx → Elt F .f32) (tok : S1x128.Idx → Elt F .f32) (w : Fin 32) (k : Fin 12) (j c : Fin 128) (r : Fin 100000)
    (hr : (lit2 (S32x12x128.rowMajor (ix3 w k j))).toNat = r.val) : tokens tok (ix2 j c) = rowsOut x tok (ix2 r c) := by
  have ht := td_at w k j
  have hl := entT_lt w k j
  generalize w.val * 1536 + k.val * 128 + j.val = e' at ht hl
  rw [ht] at hr
  have h := rowsOut_token x tok r (fun e he h => cW_ne_tW e e' he hl (h.trans hr.symm)) c
  rw [h, tokens_at]
theorem copied_row (x : S100000x128.Idx → Elt F .f32) (tok : S1x128.Idx → Elt F .f32) (w : Fin 32) (k : Fin 13) (j c : Fin 128) (r s : Fin 100000)
    (hs : (lit0 (S32x13x128.rowMajor (ix3 w k j))).toNat = s.val) (hr : (lit1 (S32x13x128.rowMajor (ix3 w k j))).toNat = r.val) :
    x (ix2 s c) = rowsOut x tok (ix2 r c) := by
  have h0 := cs_at w k j
  have h1 := cd_at w k j
  have hl := entC_lt w k j
  generalize w.val * 1664 + k.val * 128 + j.val = e at h0 h1 hl
  rw [h0] at hs
  rw [h1] at hr
  exact (rowsOut_copied x tok e hl r s hr hs c).symm

/-- The call's arrays. -/
def arrays (x : S100000x128.Idx → Elt F .f32) (tok : S1x128.Idx → Elt F .f32) : Arrays (F := F) where
  cs i := lit0 (S32x13x128.rowMajor i)
  cd i := lit1 (S32x13x128.rowMajor i)
  td i := lit2 (S32x12x128.rowMajor i)
  tb := tokens tok
  x := x
  G := rowsOut x tok
  hcs := cs_lt
  hcd := cd_lt
  htd := td_lt
  hGt w k j c := token_row x tok w k j c _ rfl
  hGc w k j c := copied_row x tok w k j c _ _ rfl rfl

/-! ## The output's rows, tile by tile -/

theorem tile_of_entC (w w' : Fin 32) (k k' : Fin 13) (j j' : Fin 128)
    (h : (w.val * 1664 + k.val * 128 + j.val) / 1664 = (w'.val * 1664 + k'.val * 128 + j'.val) / 1664) : w = w' := by
  apply Fin.ext; omega
theorem tile_of_entT (w w' : Fin 32) (k k' : Fin 12) (j j' : Fin 128)
    (h : (w.val * 1536 + k.val * 128 + j.val) / 1536 = (w'.val * 1536 + k'.val * 128 + j'.val) / 1536) : w = w' := by
  apply Fin.ext; omega

/-- The row of an entry, by the tables. -/
theorem rowW_inl (x : S100000x128.Idx → Elt F .f32) (tok : S1x128.Idx → Elt F .f32) (w : Fin 32) (k : Fin 12) (j : Fin 128) :
    (rowW (arrays x tok) w (.inl (k, j))).val = tW (w.val * 1536 + k.val * 128 + j.val) := by
  dsimp only [rowW, arrays]
  exact td_at w k j
theorem rowW_inr (x : S100000x128.Idx → Elt F .f32) (tok : S1x128.Idx → Elt F .f32) (w : Fin 32) (k : Fin 13) (j : Fin 128) :
    (rowW (arrays x tok) w (.inr (k, j))).val = cW (w.val * 1664 + k.val * 128 + j.val) := by
  dsimp only [rowW, arrays]
  exact cd_at w k j

/-- No row is named by two tiles. -/
theorem rowW_ne (x : S100000x128.Idx → Elt F .f32) (tok : S1x128.Idx → Elt F .f32) (w w' : Fin 32) (hw : w ≠ w') (p p' : Ent) :
    rowW (arrays x tok) w p ≠ rowW (arrays x tok) w' p' := by
  intro h
  have h := congrArg Fin.val h
  apply hw
  rcases p with ⟨k, j⟩ | ⟨k, j⟩ <;> rcases p' with ⟨k', j'⟩ | ⟨k', j'⟩
  · rw [rowW_inl, rowW_inl] at h
    exact tile_of_entT w w' k k' j j' (tW_inj _ _ (entT_lt w k j) (entT_lt w' k' j') h)
  · rw [rowW_inl, rowW_inr] at h
    exact absurd h.symm (cW_ne_tW _ _ (entC_lt w' k' j') (entT_lt w k j))
  · rw [rowW_inl, rowW_inr] at h
    exact absurd h (cW_ne_tW _ _ (entC_lt w k j) (entT_lt w' k' j'))
  · rw [rowW_inr, rowW_inr] at h
    exact tile_of_entC w w' k k' j j' (cW_inj _ _ (entC_lt w k j) (entC_lt w' k' j') h).2

theorem ent_of_lt (n e : ℕ) (hn : 0 < n) : e / (n * 128) * (n * 128) + e % (n * 128) / 128 * 128 + e % 128 = e := by
  have h1 := Nat.div_add_mod e (n * 128)
  have h2 := Nat.div_add_mod (e % (n * 128)) 128
  rw [Nat.mod_mul_left_mod] at h2
  rw [Nat.mul_comm (e / (n * 128)), Nat.mul_comm (e % (n * 128) / 128)]
  omega

/-- Every row is named by some tile. -/
theorem rowW_named (x : S100000x128.Idx → Elt F .f32) (tok : S1x128.Idx → Elt F .f32) (r : Fin 100000) :
    ∃ (w : Fin 32) (p : Ent), (rowW (arrays x tok) w p).val = r.val := by
  rcases row_named r.val r.isLt with ⟨e, he, h⟩ | ⟨e, he, h⟩
  · have h1 := ent_of_lt 13 e (by decide)
    have hw : e / 1664 < 32 := Nat.div_lt_of_lt_mul he
    have hk : e % 1664 / 128 < 13 := Nat.div_lt_of_lt_mul (Nat.mod_lt _ (by decide))
    have hj : e % 128 < 128 := Nat.mod_lt _ (by decide)
    exact ⟨⟨e / 1664, hw⟩, .inr (⟨e % 1664 / 128, hk⟩, ⟨e % 128, hj⟩), (rowW_inr x tok ⟨_, hw⟩ ⟨_, hk⟩ ⟨_, hj⟩).trans ((congrArg cW h1).trans h)⟩
  · have h1 := ent_of_lt 12 e (by decide)
    have hw : e / 1536 < 32 := Nat.div_lt_of_lt_mul he
    have hk : e % 1536 / 128 < 12 := Nat.div_lt_of_lt_mul (Nat.mod_lt _ (by decide))
    have hj : e % 128 < 128 := Nat.mod_lt _ (by decide)
    exact ⟨⟨e / 1536, hw⟩, .inl (⟨e % 1536 / 128, hk⟩, ⟨e % 128, hj⟩), (rowW_inl x tok ⟨_, hw⟩ ⟨_, hk⟩ ⟨_, hj⟩).trans ((congrArg tW h1).trans h)⟩

end Cert.Proof.KernelTile

end
-- ==== Proof.Same.lean ====
/-
  The idealized program is the kernel's own text: its threads and bodies are the kernel's.
-/
module

public import proofs.«01_k».proof.Defs
public import proofs.«01_k».proof.Proof.Gen.Kernel
public import proofs.«01_k».proof.Proof.Gen.KernelIdeal

@[expose] public section

noncomputable section

namespace Cert.Proof.KernelTile

open Cert.Kernel.Gen Cert.KernelIdeal.Gen

open Idealize.ShloMosaic

variable {F : FTy → Type} [FloatOps F]

set_option maxRecDepth 100000 in
set_option maxHeartbeats 4000000 in
/-- The two programs' @main are one. -/
theorem mains_eq (d : Dev Cert.Kernel.nD) : Cert.KernelIdeal.main (F := F) d = Cert.Kernel.main (F := F) d := by rfl

set_option maxRecDepth 100000 in
set_option maxHeartbeats 4000000 in
/-- The two programs' bodies are the same. -/
theorem defs_eq : Cert.KernelIdeal.defs (F := F) = Cert.Kernel.defs (F := F) := by rfl

set_option maxRecDepth 100000 in
set_option maxHeartbeats 4000000 in
/-- The two programs' threads are the same. -/
theorem threads_eq : Cert.KernelIdeal.threads (F := F) = Cert.Kernel.threads (F := F) :=
  congrArg (fun mn => (Cert.Kernel.sc (F := F)).threads mn) (funext fun d => mains_eq d)

end Cert.Proof.KernelTile

end
-- ==== Proof.KernelRun.lean ====
/-
  The kernel's run from any launch contents: what @main has written before the call, and the frame.
-/
module

public import proofs.«01_k».proof.Proof.MainRun
public import proofs.«01_k».proof.Proof.Values
public import proofs.«01_k».proof.Proof.Same

@[expose] public section

noncomputable section

namespace Cert.Proof.KernelTile

open Cert.Kernel Cert.Kernel.Gen

open Idealize.ShloMosaic
open Idealize.ShloMosaic.SparseCore (S V T)
open Idealize.ShloMosaic.SparseCore.Cfg (HIx Pay)
open Idealize.SL Idealize.SL.Sem
open Idealize.ShloMosaic.StableHlo

variable {F : FTy → Type} [FloatOps F]

section Run

variable (m : (ℓ : Loc nD τ sig) → Buf (Elt F) ℓ)

theorem V7_arg0 (d : Dev nD) : V7 m d (dr main_arg0) = m (xLoc d) := by
  simp only [V7, ops]; after_results; rfl
theorem V7_arg1 (d : Dev nD) : V7 m d (dr main_arg1) = m (a1Loc d) := by
  simp only [V7, ops]; after_results; rfl
theorem V7_v3 (d : Dev nD) : V7 m d (dr main_v3) = m (oLoc d) := by
  simp only [V7, ops]; after_results; rfl
theorem V7_c (d : Dev nD) : V7 m d (dr main_c) = fun i => lit0 (S32x13x128.rowMajor i) := by
  simp only [V7, ops]; after_results; rfl
theorem V7_c_0 (d : Dev nD) : V7 m d (dr main_c_0) = fun i => lit1 (S32x13x128.rowMajor i) := by
  simp only [V7, ops]; after_results; rfl
theorem V7_c_1 (d : Dev nD) : V7 m d (dr main_c_1) = fun i => lit2 (S32x12x128.rowMajor i) := by
  simp only [V7, ops]; after_results; rfl
theorem V7_c_2 (d : Dev nD) : V7 m d (dr main_c_2) = fun i => lit3 (S50000.rowMajor i) := by
  simp only [V7, ops]; after_results; rfl
theorem V7_v2 (d : Dev nD) : V7 m d (dr main_v2) = tokens (m (a1Loc d)) := by
  simp only [V7, ops]; after_results; rfl

theorem written : Written m fun d => arrays (m (xLoc d)) (m (a1Loc d)) where
  apart d w w' hw p p' := rowW_ne _ _ w w' hw p p'
  covers d r hr := rowW_named _ _ ⟨r, hr⟩
  x d := V7_arg0 m d
  tb d := V7_v2 m d
  cs d := V7_c m d
  cd d := V7_c_0 m d
  td d := V7_c_1 m d
  o d := V7_v3 m d

variable (ρ : Dev nD → PrngReg)

/-- The kernel's run. -/
def Ran : PUnit × MemSt nD τ sig (Elt F) → Prop := fun r =>
  (∀ d : Dev nD, r.2.mem (xLoc d) = m (xLoc d) ∧ r.2.mem (a1Loc d) = m (a1Loc d) ∧ r.2.mem (oLoc d) = rowsOut (m (xLoc d)) (m (a1Loc d))
    ∧ r.2.mem (c2Loc d) = fun i => lit3 (S50000.rowMajor i)) ∧ r.2.sem = fun _ => 0

theorem kernel_run [∀ e, Nonempty (Elt F e)] : θ_run (Cert.Kernel.defs (F := F)) (Cert.Kernel.threads (F := F)) ⟨m, fun _ => 0, ρ⟩ (Ran m) := by
  refine (θ_run Cert.Kernel.defs _ _).mono (fun r h => ?_) (run_main m ρ _ (written m))
  refine ⟨fun d => ?_, h.2⟩
  obtain ⟨h0, h1, h2, h3⟩ := h.1 d
  exact ⟨h0, h1.trans (V7_arg1 m d), h2, h3.trans (V7_c_2 m d)⟩

end Run

/-! ## The idealized program is the same program -/

set_option maxRecDepth 100000 in
set_option maxHeartbeats 4000000 in
theorem kernelIdeal_run [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ (Ran m) := by
  rw [defs_eq, threads_eq]
  exact kernel_run m ρ

/-! ## The frames -/

theorem frame_kernel : Cert.quiescent_Kernel := fun m g _ =>
  (θ_run Cert.Kernel.defs _ _).mono (fun _ h => ⟨fun c => ⟨(h.1 c).1, (h.1 c).2.1⟩, h.2⟩) (kernel_run (F := Bits) m g)

set_option maxRecDepth 100000 in
set_option maxHeartbeats 4000000 in
theorem frame_kernelIdeal : Cert.quiescent_KernelIdeal (hKernelIdeal := Cert.KernelIdeal.Gen.facts) := fun m g _ =>
  (θ_run Cert.KernelIdeal.defs _ _).mono (fun _ h => ⟨fun c => ⟨(h.1 c).1, (h.1 c).2.1⟩, h.2⟩) (kernelIdeal_run (F := Ideal) m g)

end Cert.Proof.KernelTile

end
-- ==== Proof.RowScatter.lean ====
/-
  Reading the row operations of a matrix at an element, at any extents: a scatter of whole rows by one index word each, and
  the wrap of negative indices that precedes it.
-/
module

public import Idealize.ShloMosaic.Lib.Routing.OpsPair
public import Idealize.ShloMosaic.Lib.Routing.OpsSet
public import Idealize.ShloMosaic.Lib.Routing.OpsSearch

@[expose] public section

namespace Cert.Proof.RowScatter

open Idealize.ShloMosaic Idealize.ShloMosaic.ValueIdx Idealize.ShloMosaic.Routing

/-- Update `(i, y)` of a scatter of rows lands at `(r, c)` exactly when its row's index word, read signed, is `r` and its column is `c`. -/
theorem rows_lands {R C n : ℕ} (d : ScatterDims (shape2 R C) (shape2 n 1) (shape2 n C)) (huw : d.updateWindowDims = [1])
    (hiw : d.insertedWindowDims = [0]) (hsd : d.scatterDimsToOperandDims = [0]) (hivd : d.indexVectorDim = 1)
    (idx : IVec (shape2 n 1) 32) (i : Fin n) (y : Fin C) (r : Fin R) (c : Fin C) :
    d.resultIdx? (ix2 i y) idx = some (ix2 r c) ↔ (idx (ix2 i (0 : Fin 1))).toInt = (r.val : Int) ∧ y = c := by
  have hm : (0 : Fin 2) ∈ d.scatterDimsToOperandDims := by rw [hsd]; exact List.mem_singleton.2 rfl
  have hm1 : (1 : Fin 2) ∉ d.scatterDimsToOperandDims := one_not_mem _ hsd
  have hk0 : (0 : Fin 2) ∉ d.sKept := fun h => (of_decide_eq_true (List.mem_filter.1 h).2) (by rw [hiw]; exact List.mem_singleton.2 rfl)
  have hk1 : (1 : Fin 2) ∈ d.sKept := List.mem_filter.2 ⟨List.mem_finRange _, decide_eq_true (one_not_mem _ hiw)⟩
  have hu0 : ∀ k ∈ d.uScatter, k = (0 : Fin 2) := fun k hk => by
    have hk' : k ∉ d.updateWindowDims := of_decide_eq_true (List.mem_filter.1 hk).2
    rw [huw] at hk'
    have h1 : k.val ≠ 1 := fun e => hk' (List.mem_singleton.2 (Fin.ext e))
    have h2 : k.val < 2 := k.isLt
    exact Fin.ext (by show k.val = 0; omega)
  have hu1 : ∀ k ∈ d.updateWindowDims, k = (1 : Fin 2) := fun k hk => by rw [huw] at hk; exact List.mem_singleton.1 hk
  have e0 : ∀ X : Fin 2, X = 0 → (ix2 i y X).val = i.val := fun X h => by subst h; rfl
  have e1 : ∀ X : Fin 2, X = 1 → (ix2 i y X).val = y.val := fun X h => by subst h; rfl
  have hw0 : d.window (ix2 i y) 0 = 0 := by
    unfold ScatterDims.window
    rw [dif_neg hk0]
  have hw1 : d.window (ix2 i y) 1 = y.val := by
    unfold ScatterDims.window
    rw [dif_pos hk1]
    exact e1 _ (hu1 _ (List.getElem_mem _))
  have hs1 : d.start (ix2 i y) idx 1 = 0 := by
    unfold ScatterDims.start
    rw [dif_neg hm1]
  have hs0 : d.start (ix2 i y) idx 0 = (idx (ix2 i (0 : Fin 1))).toInt := by
    unfold ScatterDims.start
    rw [dif_pos hm]
    have hsi : d.siIdx (ix2 i y) ⟨d.scatterDimsToOperandDims.idxOf 0, List.idxOf_lt_length_iff.2 hm⟩ = ix2 i (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _ (hu0 _ (List.getElem_mem _))
      | ⟨1, _⟩ =>
        unfold ScatterDims.siIdx
        rw [dif_pos (by rw [hivd])]
        show List.idxOf (0 : Fin 2) d.scatterDimsToOperandDims = 0
        rw [hsd]; simp
    rw [hsi]
  rw [resultIdx?_ix2, hw0, hw1, hs0, hs1]
  constructor
  · rintro ⟨h1, h2⟩
    exact ⟨by omega, Fin.ext (by omega)⟩
  · rintro ⟨h1, rfl⟩
    exact ⟨by omega, by omega⟩

/-- An index of a matrix by its row and column. -/
theorem ix2_eta {R C : ℕ} (k : (shape2 R C).Idx) : ∃ (i : Fin R) (y : Fin C), k = ix2 i y :=
  ⟨k 0, k 1, funext fun a => match a with
    | ⟨0, _⟩ => rfl
    | ⟨1, _⟩ => rfl⟩

section

variable {R C n : ℕ} (d : ScatterDims (shape2 R C) (shape2 n 1) (shape2 n C)) (huw : d.updateWindowDims = [1])
  (hiw : d.insertedWindowDims = [0]) (hsd : d.scatterDimsToOperandDims = [0]) (hivd : d.indexVectorDim = 1)
  (idx : IVec (shape2 n 1) 32) (p : Fin n → ℕ) (hp : ∀ i, (idx (ix2 i (0 : Fin 1))).toInt = (p i : Int))

include huw hiw hsd hivd hp

/-- `rows_lands` at index words that are naturals. -/
theorem rows_lands_nat (i : Fin n) (y : Fin C) (r : Fin R) (c : Fin C) :
    d.resultIdx? (ix2 i y) idx = some (ix2 r c) ↔ p i = r.val ∧ y = c := by
  rw [rows_lands d huw hiw hsd hivd, hp]
  exact and_congr_left fun _ => Int.ofNat_inj

/-- Rows set, at a row that is named: the update's element, when all updates of the row have the same one. -/
theorem rows_set_hit {α : Type} (x : (shape2 R C).Idx → α) (upd : (shape2 n C).Idx → α) (i : Fin n) (r : Fin R) (c : Fin C) (hi : p i = r.val)
    (hv : ∀ i', p i' = r.val → upd (ix2 i' c) = upd (ix2 i c)) : Host.scatter d (fun _ b => b) x idx upd (ix2 r c) = upd (ix2 i c) := by
  refine scatter_set_hit d x idx upd (ix2 r c) _ (fun k hk => ?_) (ix2 i c) ((rows_lands_nat d huw hiw hsd hivd idx p hp _ _ _ _).2 ⟨hi, rfl⟩)
  obtain ⟨i', y, rfl⟩ := ix2_eta k
  obtain ⟨h1, rfl⟩ := (rows_lands_nat d huw hiw hsd hivd idx p hp _ _ _ _).1 hk
  exact hv i' h1

/-- Rows set, at a row that is not named: the operand's element. -/
theorem rows_set_miss {α : Type} (x : (shape2 R C).Idx → α) (upd : (shape2 n C).Idx → α) (r : Fin R) (c : Fin C) (h : ∀ i, p i ≠ r.val) :
    Host.scatter d (fun _ b => b) x idx upd (ix2 r c) = x (ix2 r c) := by
  refine scatter_set_miss d x idx upd (ix2 r c) fun k hk => ?_
  obtain ⟨i', y, rfl⟩ := ix2_eta k
  exact h i' ((rows_lands_nat d huw hiw hsd hivd idx p hp _ _ _ _).1 hk).1

/-- Rows added, at a row that is named once: the sum of the operand's element and the update's. -/
theorem rows_add_hit (x : (shape2 R C).Idx → EReal) (upd : (shape2 n C).Idx → EReal) (i : Fin n) (r : Fin R) (c : Fin C)
    (hi : ∀ i', p i' = r.val ↔ i' = i) : Ideal.hostScatterAdd d x idx upd (ix2 r c) = x (ix2 r c) + upd (ix2 i c) := by
  unfold Ideal.hostScatterAdd
  congr 1
  refine Finset.sum_eq_single_of_mem (f := upd) (ix2 i c) ?_ fun k hk hne => ?_
  · exact Finset.mem_filter.2 ⟨Finset.mem_univ _, (rows_lands_nat d huw hiw hsd hivd idx p hp _ _ _ _).2 ⟨(hi i).2 rfl, rfl⟩⟩
  · obtain ⟨i', y, rfl⟩ := ix2_eta k
    obtain ⟨h1, rfl⟩ := (rows_lands_nat d huw hiw hsd hivd idx p hp _ _ _ _).1 (Finset.mem_filter.1 hk).2
    exact (hne (by rw [(hi i').1 h1])).elim

/-- Rows added, at a row that is not named: the operand's element. -/
theorem rows_add_miss (x : (shape2 R C).Idx → EReal) (upd : (shape2 n C).Idx → EReal) (r : Fin R) (c : Fin C) (h : ∀ i, p i ≠ r.val) :
    Ideal.hostScatterAdd d x idx upd (ix2 r c) = x (ix2 r c) := by
  unfold Ideal.hostScatterAdd
  rw [Finset.sum_eq_zero fun k hk => ?_, add_zero]
  obtain ⟨i', y, rfl⟩ := ix2_eta k
  exact (h i' ((rows_lands_nat d huw hiw hsd hivd idx p hp _ _ _ _).1 (Finset.mem_filter.1 hk).2).1).elim

end

/-- A vector of indices after the wrap of the negative ones by the extent `e`. -/
def wrapped {n : ℕ} (h : shape0.BroadcastsInDim (shape1 n) (![] : Fin 0 → Fin (shape1 n).rank)) (e : BitVec 32) (v : IVec (shape1 n) 32) : IVec (shape1 n) 32 :=
  select (cmpi .slt v (broadcastInDim (shape1 n) ![] h (constantI shape0 32 0#32)))
    (addi v (broadcastInDim (shape1 n) ![] h (constantI shape0 32 e))) v

/-- An index that is not negative is left as it is. -/
theorem wrapped_ap {n : ℕ} (h : shape0.BroadcastsInDim (shape1 n) (![] : Fin 0 → Fin (shape1 n).rank)) (e : BitVec 32) (v : IVec (shape1 n) 32)
    (i : Fin n) (hv : (v (ix1 i)).toNat < 2 ^ 31) : wrapped h e v (ix1 i) = v (ix1 i) :=
  wrap_of_lt (v (ix1 i)) _ hv

/-- The index words that the row operations read, as naturals. -/
theorem wrapped_toInt {n : ℕ} (h : shape0.BroadcastsInDim (shape1 n) (![] : Fin 0 → Fin (shape1 n).rank))
    (h₁ : (shape1 n).BroadcastsInDim (shape2 n 1) (![0] : Fin 1 → Fin (shape2 n 1).rank)) (e : BitVec 32) (v : IVec (shape1 n) 32)
    (i : Fin n) (hv : (v (ix1 i)).toNat < 2 ^ 31) :
    (broadcastInDim (shape2 n 1) ![0] h₁ (wrapped h e v) (ix2 i (0 : Fin 1))).toInt = ((v (ix1 i)).toNat : Int) := by
  rw [bcCol, wrapped_ap h e v i hv, BitVec.toInt_eq_toNat_cond, if_pos (by omega)]

/-- The index words themselves. -/
theorem wrapped_word {n : ℕ} (h : shape0.BroadcastsInDim (shape1 n) (![] : Fin 0 → Fin (shape1 n).rank))
    (h₁ : (shape1 n).BroadcastsInDim (shape2 n 1) (![0] : Fin 1 → Fin (shape2 n 1).rank)) (e : BitVec 32) (v : IVec (shape1 n) 32)
    (i : Fin n) (hv : (v (ix1 i)).toNat < 2 ^ 31) :
    broadcastInDim (shape2 n 1) ![0] h₁ (wrapped h e v) (ix2 i (0 : Fin 1)) = BitVec.ofNat 32 (v (ix1 i)).toNat := by
  rw [bcCol, wrapped_ap h e v i hv, BitVec.ofNat_toNat, BitVec.setWidth_eq]

end Cert.Proof.RowScatter
-- ==== Proof.Reference.lean ====
/-
  The reference's run, and its first result as one expression over its arguments and its lists of rows.
-/
module

public import proofs.«01_k».proof.Proof.Gen.ReferenceIdeal
public import proofs.«01_k».proof.Proof.RowScatter
public import Idealize.ShloMosaic.Lib.Claim

@[expose] public section

noncomputable section

namespace Cert.Proof.Reference

open Cert.ReferenceIdeal Cert.ReferenceIdeal.Gen Cert.Proof.RowScatter
open Idealize.ShloMosaic Idealize.ShloMosaic.StableHlo Idealize.SL.Sem

/-- The masked rows' result: `x` with the rows of `mk` at zero, the token added to them, and the rows of `mk` at the positions `np` replaced by
    the rows `ns` of `x`. -/
def maskRows (x : S100000x128.Idx → EReal) (t : S1x128.Idx → EReal) (mk : IVec S50000 32) (np ns : IVec S2500 32) : S100000x128.Idx → EReal :=
  Host.scatter scatter_S100000x128_S2500x1_S2500x128_1_0_0_1 (fun _ b => b)
    (Ideal.hostScatterAdd scatter_S100000x128_S50000x1_S50000x128_1_0_0_1
      (Host.scatter scatter_S100000x128_S50000x1_S50000x128_1_0_0_1 (fun _ b => b) x
        (broadcastInDim S50000x1 ![0] bcast_S50000_S50000x1_0 (wrapped bcast_S_S50000 100000#32 mk))
        (broadcastInDim S50000x128 ![] bcast_S_S50000x128 (constant (F := Ideal) S_ .f32 0x00000000#32)))
      (broadcastInDim S50000x1 ![0] bcast_S50000_S50000x1_0 (wrapped bcast_S_S50000 100000#32 mk))
      (broadcastInDim S50000x128 ![0, 1] bcast_S1x128_S50000x128_0_1 t))
    (broadcastInDim S2500x1 ![0] bcast_S2500_S2500x1_0 (wrapped bcast_S_S2500 100000#32
      (Host.gather gather_S50000_S2500x1_S2500_n_0_n_n_0_1_1 mk
        (broadcastInDim S2500x1 ![0] bcast_S2500_S2500x1_0 (wrapped bcast_S_S2500 50000#32 np)))))
    (Host.gather gather_S100000x128_S2500x1_S2500x128_1_0_n_n_0_1_1128 x
      (broadcastInDim S2500x1 ![0] bcast_S2500_S2500x1_0 (wrapped bcast_S_S2500 100000#32 ns)))

/-- The lists of rows the reference holds. -/
def maskList : IVec S50000 32 := fun i => lit0 (S50000.rowMajor i)
def positionList : IVec S2500 32 := fun i => lit1 (S2500.rowMajor i)
def sourceList : IVec S2500 32 := fun i => lit2 (S2500.rowMajor i)

/-- The reference's run. -/
def Ran (m : (ℓ : Loc nD τ sig) → Buf (Elt Ideal) ℓ) : PUnit × MemSt nD τ sig (Elt Ideal) → Prop := fun r =>
  (∀ c : Dev nD, r.2.mem ((c.tc : Thread nD τ).loc main_v36)
        = maskRows (m ((c.tc : Thread nD τ).loc main_arg0)) (m ((c.tc : Thread nD τ).loc main_arg1)) maskList positionList sourceList
      ∧ r.2.mem ((c.tc : Thread nD τ).loc main_c) = maskList
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0

/-- The reference has no counters. -/
theorem no_counters (sm : SemLoc sig) : False := by
  revert sm; decide

theorem run (m : (ℓ : Loc nD τ sig) → Buf (Elt Ideal) ℓ) (ρ : Dev nD → PrngReg) :
    θ_run (defs (F := Ideal)) (onTc (τ := τ) (main (F := Ideal))) ⟨m, fun _ => 0, ρ⟩ (Ran m) := by
  refine θ_run_mono (StableHlo.run_hlo (defs (F := Ideal)) (main (F := Ideal)) (by hlo_seq) (by decide) (by decide) (by simp)
      (by intro _ h; (repeat (cases h with | head => rfl | tail _ h => ?_)); exact nomatch h) m ρ) (fun r h => ?_)
  refine ⟨fun c => ⟨?_, ?_, ?_, ?_⟩, funext fun g => (no_counters g.2).elim⟩
  · rw [h c main_v36]; after_results; rfl
  · rw [h c main_c]; after_results; rfl
  · rw [h c main_arg0]; after_results
  · rw [h c main_arg1]; after_results

end Cert.Proof.Reference

end
-- ==== Proof.ReferenceValue.lean ====
/-
  The reference's first result at an element: the replaced rows, the token's rows, and the rows left as they are.
-/
module

public import proofs.«01_k».proof.Proof.Reference

@[expose] public section

noncomputable section

namespace Cert.Proof.Reference

open Cert.ReferenceIdeal Cert.ReferenceIdeal.Gen Cert.Proof.RowScatter
open Idealize.ShloMosaic Idealize.ShloMosaic.ValueIdx Idealize.ShloMosaic.Routing

section

variable (x : S100000x128.Idx → EReal) (t : S1x128.Idx → EReal) (mk : IVec S50000 32) (np ns : IVec S2500 32)
  (hmk : ∀ j : Fin 50000, (mk (ix1 j)).toNat < 100000) (hnp : ∀ i : Fin 2500, (np (ix1 i)).toNat < 50000)
  (hns : ∀ i : Fin 2500, (ns (ix1 i)).toNat < 100000)

/-- The row that replacement `i` writes, and the one it reads. -/
def noiseRow (i : Fin 2500) : ℕ := (mk (ix1 ⟨(np (ix1 i)).toNat, hnp i⟩)).toNat
def sourceRow (i : Fin 2500) : Fin 100000 := ⟨(ns (ix1 i)).toNat, hns i⟩

/-- The gather of the masked rows at the replaced positions. -/
theorem noise_word (i : Fin 2500) :
    Host.gather gather_S50000_S2500x1_S2500_n_0_n_n_0_1_1 mk
      (broadcastInDim S2500x1 ![0] bcast_S2500_S2500x1_0 (wrapped bcast_S_S2500 50000#32 np)) (ix1 i) = mk (ix1 ⟨(np (ix1 i)).toNat, hnp i⟩) :=
  take_ap (N := 50000) (n := 2500) gather_S50000_S2500x1_S2500_n_0_n_n_0_1_1 rfl rfl rfl rfl mk _ i (hnp i) (by have := hnp i; omega)
    (wrapped_word (n := 2500) bcast_S_S2500 bcast_S2500_S2500x1_0 50000#32 np i (by have := hnp i; omega))

include hmk in
/-- The index words of the replacing scatter. -/
theorem noise_index (i : Fin 2500) :
    (broadcastInDim S2500x1 ![0] bcast_S2500_S2500x1_0 (wrapped bcast_S_S2500 100000#32
      (Host.gather gather_S50000_S2500x1_S2500_n_0_n_n_0_1_1 mk
        (broadcastInDim S2500x1 ![0] bcast_S2500_S2500x1_0 (wrapped bcast_S_S2500 50000#32 np)))) (ix2 i (0 : Fin 1))).toInt
      = (noiseRow mk np hnp i : Int) := by
  have h := noise_word mk np hnp i
  have h2 := hmk ⟨(np (ix1 i)).toNat, hnp i⟩
  generalize Host.gather gather_S50000_S2500x1_S2500_n_0_n_n_0_1_1 mk _ = g at h ⊢
  have h3 := wrapped_toInt (n := 2500) bcast_S_S2500 bcast_S2500_S2500x1_0 100000#32 g i (by rw [h]; omega)
  rw [h] at h3
  exact h3

include hmk in
/-- The index words of the masking scatters. -/
theorem mask_index (j : Fin 50000) :
    (broadcastInDim S50000x1 ![0] bcast_S50000_S50000x1_0 (wrapped bcast_S_S50000 100000#32 mk) (ix2 j (0 : Fin 1))).toInt
      = ((mk (ix1 j)).toNat : Int) :=
  wrapped_toInt (n := 50000) bcast_S_S50000 bcast_S50000_S50000x1_0 100000#32 mk j (by have := hmk j; omega)

/-- The replacing rows. -/
theorem source_row (i : Fin 2500) (c : Fin 128) :
    Host.gather gather_S100000x128_S2500x1_S2500x128_1_0_n_n_0_1_1128 x
      (broadcastInDim S2500x1 ![0] bcast_S2500_S2500x1_0 (wrapped bcast_S_S2500 100000#32 ns)) (ix2 i c) = x (ix2 (sourceRow ns hns i) c) :=
  gather_row (nb := 100000) (B := 128) (n := 2500) gather_S100000x128_S2500x1_S2500x128_1_0_n_n_0_1_1128 rfl rfl rfl rfl rfl x _ i c (sourceRow ns hns i)
    (wrapped_word (n := 2500) bcast_S_S2500 bcast_S2500_S2500x1_0 100000#32 ns i (by have := hns i; omega)) (by decide)

include hmk in
/-- A replaced row is the row of `x` that replaces it, when all replacements of the row read the same one. -/
theorem maskRows_noise (i : Fin 2500) (r : Fin 100000) (c : Fin 128) (hi : noiseRow mk np hnp i = r.val)
    (hv : ∀ i', noiseRow mk np hnp i' = r.val → (ns (ix1 i')).toNat = (ns (ix1 i)).toNat) :
    maskRows x t mk np ns (ix2 r c) = x (ix2 (sourceRow ns hns i) c) := by
  rw [← source_row x ns hns i c]
  refine rows_set_hit (R := 100000) (C := 128) (n := 2500) scatter_S100000x128_S2500x1_S2500x128_1_0_0_1 rfl rfl rfl rfl _
    (noiseRow mk np hnp) (noise_index mk np hmk hnp) _ _ i r c hi fun i' hi' => ?_
  rw [source_row x ns hns i' c, source_row x ns hns i c]
  exact congrArg (fun q => x (ix2 q c)) (Fin.ext (hv i' hi'))

include hmk in
/-- A row that is masked once and not replaced is the token. -/
theorem maskRows_token (j : Fin 50000) (r : Fin 100000) (c : Fin 128) (hn : ∀ i, noiseRow mk np hnp i ≠ r.val)
    (hj : ∀ j' : Fin 50000, (mk (ix1 j')).toNat = r.val ↔ j' = j) : maskRows x t mk np ns (ix2 r c) = t (ix2 (0 : Fin 1) c) := by
  unfold maskRows
  rw [rows_set_miss (R := 100000) (C := 128) (n := 2500) scatter_S100000x128_S2500x1_S2500x128_1_0_0_1 rfl rfl rfl rfl _
      (noiseRow mk np hnp) (noise_index mk np hmk hnp) _ _ r c hn,
    rows_add_hit (R := 100000) (C := 128) (n := 50000) scatter_S100000x128_S50000x1_S50000x128_1_0_0_1 rfl rfl rfl rfl _
      (fun j => (mk (ix1 j)).toNat) (mask_index mk hmk) _ _ j r c hj,
    rows_set_hit (R := 100000) (C := 128) (n := 50000) scatter_S100000x128_S50000x1_S50000x128_1_0_0_1 rfl rfl rfl rfl _
      (fun j => (mk (ix1 j)).toNat) (mask_index mk hmk) _ _ j r c ((hj j).2 rfl) (fun _ _ => rfl)]
  have h0 : broadcastInDim S50000x128 ![] bcast_S_S50000x128 (constant (F := Ideal) S_ .f32 0x00000000#32) (ix2 j c) = (0 : EReal) := by
    rw [bc0 bcast_S_S50000x128]
    exact (show Ideal.ofBits .f32 0x00000000#32 = 0 by simp [Ideal.ofBits, Ideal.ieee])
  have h1 : broadcastInDim S50000x128 ![0, 1] bcast_S1x128_S50000x128_0_1 t (ix2 j c) = t (ix2 (0 : Fin 1) c) :=
    broadcastInDim_apply _ bcast_S1x128_S50000x128_0_1 t _ _ fun a => match a with
      | ⟨0, _⟩ => rfl
      | ⟨1, _⟩ => rfl
  rw [h0, h1, zero_add]

include hmk hnp in
/-- A row that is not masked is left as it is. -/
theorem maskRows_rest (r : Fin 100000) (c : Fin 128) (hj : ∀ j : Fin 50000, (mk (ix1 j)).toNat ≠ r.val) :
    maskRows x t mk np ns (ix2 r c) = x (ix2 r c) := by
  unfold maskRows
  rw [rows_set_miss (R := 100000) (C := 128) (n := 2500) scatter_S100000x128_S2500x1_S2500x128_1_0_0_1 rfl rfl rfl rfl _
      (noiseRow mk np hnp) (noise_index mk np hmk hnp) _ _ r c fun i => hj _,
    rows_add_miss (R := 100000) (C := 128) (n := 50000) scatter_S100000x128_S50000x1_S50000x128_1_0_0_1 rfl rfl rfl rfl _
      (fun j => (mk (ix1 j)).toNat) (mask_index mk hmk) _ _ r c hj,
    rows_set_miss (R := 100000) (C := 128) (n := 50000) scatter_S100000x128_S50000x1_S50000x128_1_0_0_1 rfl rfl rfl rfl _
      (fun j => (mk (ix1 j)).toNat) (mask_index mk hmk) _ _ r c hj]

end

end Cert.Proof.Reference

end
-- ==== Proof.Masked.lean ====
/-
  The reference's lists of rows, and the checks that compare them with the program's.

  The reference masks the rows `mW` and replaces those at the positions `pW` of that list by the rows `nW`; the program copies
  the rows `sW` to the rows `cW`, and the token to the rows `tW`. A set of rows is a number, whose bits are its members.
-/
module

public import proofs.«01_k».proof.Proof.Tables
public import proofs.«01_k».proof.ReferenceIdeal

@[expose] public section

namespace Cert.Proof.Tables

open Cert.Proof.Scan

/-- A masked row, a replaced position of the list of masked rows, a replacing row, and a replaced row. -/
noncomputable abbrev mW (j : ℕ) : ℕ := (Cert.ReferenceIdeal.lit0t j).toNat
noncomputable abbrev pW (i : ℕ) : ℕ := (Cert.ReferenceIdeal.lit1t i).toNat
noncomputable abbrev nW (i : ℕ) : ℕ := (Cert.ReferenceIdeal.lit2t i).toNat
noncomputable abbrev rW (i : ℕ) : ℕ := mW (pW i)

/-! ## Disjoint unions -/

/-- The union of two disjoint sets; a bit outside all rows if they are not disjoint. -/
def join (l r : ℕ) : ℕ := cond (Nat.beq (Nat.land l r) 0) (Nat.lor l r) (Nat.shiftLeft 1 200000)

/-- The union of the bits `f` gives at `a, …, a + 2 ^ d - 1`, those from `hi` on left out, marked where two of them meet. -/
def apart (f : ℕ → ℕ) (hi d : ℕ) : ℕ → ℕ :=
  Nat.rec (motive := fun _ => ℕ → ℕ) (fun a => cond (Nat.ble hi a) 0 (f a)) (fun d ih a => join (ih a) (ih (Nat.add a (Nat.pow 2 d)))) d

/-- The same of the first `n` stretches of 4096. -/
def apartAll (f : ℕ → ℕ) (hi : ℕ) : ℕ → ℕ
  | 0 => 0
  | n + 1 => join (apartAll f hi n) (apart f hi 12 (4096 * n))

theorem testBit_own (k : ℕ) : (Nat.shiftLeft 1 k).testBit k = true := by
  show ((1 : ℕ) <<< k).testBit k = true
  rw [Nat.one_shiftLeft, Nat.testBit_two_pow]
  exact decide_eq_true rfl

theorem join_spec (l r B : ℕ) (hB : B = 200000) (h : (join l r).testBit B = false) : l &&& r = 0 ∧ join l r = l ||| r := by
  unfold join at h ⊢
  have hs : (Nat.shiftLeft 1 200000).testBit B = true := hB ▸ testBit_own B
  generalize Nat.shiftLeft 1 200000 = S at h hs ⊢
  cases hb : Nat.beq (Nat.land l r) 0
  · rw [hb] at h
    rw [cond_false] at h
    rw [h] at hs
    exact Bool.noConfusion hs
  · exact ⟨Nat.eq_of_beq_eq_true hb, rfl⟩

/-- A disjoint union of two families, one over the indices `P` and one over `Q`. -/
theorem join_family (f : ℕ → ℕ) (P Q : ℕ → Prop) (l r B : ℕ) (hB : B = 200000) (h : (join l r).testBit B = false)
    (hl : l.testBit B = false → (∀ b, l.testBit b = true ↔ ∃ e, P e ∧ (f e).testBit b = true)
      ∧ ∀ e e' b, P e → P e' → (f e).testBit b = true → (f e').testBit b = true → e = e')
    (hr : r.testBit B = false → (∀ b, r.testBit b = true ↔ ∃ e, Q e ∧ (f e).testBit b = true)
      ∧ ∀ e e' b, Q e → Q e' → (f e).testBit b = true → (f e').testBit b = true → e = e') :
    (∀ b, (join l r).testBit b = true ↔ ∃ e, (P e ∨ Q e) ∧ (f e).testBit b = true)
      ∧ ∀ e e' b, P e ∨ Q e → P e' ∨ Q e' → (f e).testBit b = true → (f e').testBit b = true → e = e' := by
  obtain ⟨h0, h1⟩ := join_spec l r B hB h
  rw [h1, Nat.testBit_or, Bool.or_eq_false_iff] at h
  obtain ⟨hl1, hl2⟩ := hl h.1
  obtain ⟨hr1, hr2⟩ := hr h.2
  have hd : ∀ e e' b, P e → Q e' → (f e).testBit b = true → (f e').testBit b = true → False := fun e e' b he he' hb hb' => by
    have h2 : (l &&& r).testBit b = true := by
      rw [Nat.testBit_and, (hl1 b).2 ⟨e, he, hb⟩, (hr1 b).2 ⟨e', he', hb'⟩]; rfl
    rw [h0, Nat.zero_testBit] at h2
    exact Bool.noConfusion h2
  refine ⟨fun b => ?_, fun e e' b he he' hb hb' => ?_⟩
  · rw [h1, Nat.testBit_or, Bool.or_eq_true, hl1, hr1]
    constructor
    · rintro (⟨e, he, hb⟩ | ⟨e, he, hb⟩)
      · exact ⟨e, .inl he, hb⟩
      · exact ⟨e, .inr he, hb⟩
    · rintro ⟨e, he | he, hb⟩
      · exact .inl ⟨e, he, hb⟩
      · exact .inr ⟨e, he, hb⟩
  · rcases he with he | he <;> rcases he' with he' | he'
    · exact hl2 e e' b he he' hb hb'
    · exact (hd e e' b he he' hb hb').elim
    · exact (hd e' e b he' he hb' hb).elim
    · exact hr2 e e' b he he' hb hb'

/-- An unmarked union has the members' bits, and no bit of two members. -/
theorem apart_spec (f : ℕ → ℕ) (hi B : ℕ) (hB : B = 200000) : ∀ d a, (apart f hi d a).testBit B = false →
    (∀ b, (apart f hi d a).testBit b = true ↔ ∃ e, (a ≤ e ∧ e < a + 2 ^ d ∧ e < hi) ∧ (f e).testBit b = true)
      ∧ ∀ e e' b, (a ≤ e ∧ e < a + 2 ^ d ∧ e < hi) → (a ≤ e' ∧ e' < a + 2 ^ d ∧ e' < hi) → (f e).testBit b = true → (f e').testBit b = true → e = e' := by
  intro d
  induction d with
  | zero =>
    intro a _
    refine ⟨fun b => ?_, fun e e' b he he' _ _ => ?_⟩
    · show (cond (Nat.ble hi a) 0 (f a)).testBit b = true ↔ _
      have hb := testBit_bits f hi b 0 a
      have hb : (cond (Nat.ble hi a) 0 (f a)).testBit b = true ↔ _ := hb
      rw [hb]
      exact ⟨fun ⟨e, h1, h2, h3, h4⟩ => ⟨e, ⟨h1, h2, h3⟩, h4⟩, fun ⟨e, ⟨h1, h2, h3⟩, h4⟩ => ⟨e, h1, h2, h3, h4⟩⟩
    · simp only [pow_zero] at he he'
      omega
  | succ d ih =>
    intro a h
    have hp : 2 ^ (d + 1) = 2 ^ d + 2 ^ d := by rw [pow_succ]; omega
    have key := join_family f (fun e => a ≤ e ∧ e < a + 2 ^ d ∧ e < hi) (fun e => a + 2 ^ d ≤ e ∧ e < a + 2 ^ d + 2 ^ d ∧ e < hi)
      (apart f hi d a) (apart f hi d (a + 2 ^ d)) B hB h (ih a) (ih (a + 2 ^ d))
    have hiff : ∀ e, (a ≤ e ∧ e < a + 2 ^ (d + 1) ∧ e < hi) ↔ ((a ≤ e ∧ e < a + 2 ^ d ∧ e < hi) ∨ (a + 2 ^ d ≤ e ∧ e < a + 2 ^ d + 2 ^ d ∧ e < hi)) := by
      intro e
      rw [hp]
      generalize 2 ^ d = p
      omega
    simp only [hiff]
    exact key

theorem apartAll_spec (f : ℕ → ℕ) (hi B : ℕ) (hB : B = 200000) : ∀ n, (apartAll f hi n).testBit B = false →
    (∀ b, (apartAll f hi n).testBit b = true ↔ ∃ e, (e < 4096 * n ∧ e < hi) ∧ (f e).testBit b = true)
      ∧ ∀ e e' b, (e < 4096 * n ∧ e < hi) → (e' < 4096 * n ∧ e' < hi) → (f e).testBit b = true → (f e').testBit b = true → e = e' := by
  intro n
  induction n with
  | zero =>
    intro _
    refine ⟨fun b => ⟨fun h => ?_, fun ⟨e, he, _⟩ => by omega⟩, fun e e' b he => by omega⟩
    rw [show apartAll f hi 0 = 0 from rfl, Nat.zero_testBit] at h
    exact Bool.noConfusion h
  | succ n ih =>
    intro h
    have key := join_family f (fun e => e < 4096 * n ∧ e < hi) (fun e => 4096 * n ≤ e ∧ e < 4096 * n + 2 ^ 12 ∧ e < hi)
      (apartAll f hi n) (apart f hi 12 (4096 * n)) B hB h ih (apart_spec f hi B hB 12 (4096 * n))
    have hiff : ∀ e, (e < 4096 * (n + 1) ∧ e < hi) ↔ ((e < 4096 * n ∧ e < hi) ∨ (4096 * n ≤ e ∧ e < 4096 * n + 2 ^ 12 ∧ e < hi)) := by
      intro e
      rw [show (2 : ℕ) ^ 12 = 4096 from rfl]
      omega
    simp only [hiff]
    exact key

/-! ## Checks of every entry -/

/-- Every entry of `a, …, a + 2 ^ d - 1`, those from `hi` on left out, passes the check `f`. -/
def every (f : ℕ → Bool) (hi d : ℕ) : ℕ → Bool :=
  Nat.rec (motive := fun _ => ℕ → Bool) (fun a => cond (Nat.ble hi a) true (f a)) (fun d ih a => cond (ih a) (ih (Nat.add a (Nat.pow 2 d))) false) d

theorem every_spec (f : ℕ → Bool) (hi : ℕ) : ∀ d a, every f hi d a = true → ∀ e, a ≤ e → e < a + 2 ^ d → e < hi → f e = true := by
  intro d
  induction d with
  | zero =>
    intro a h e h1 h2 h3
    have h : cond (Nat.ble hi a) true (f a) = true := h
    obtain rfl : e = a := by simp only [pow_zero] at h2; omega
    cases hb : Nat.ble hi e
    · rwa [hb, cond_false] at h
    · have := Nat.le_of_ble_eq_true hb; omega
  | succ d ih =>
    intro a h e h1 h2 h3
    have h : cond (every f hi d a) (every f hi d (a + 2 ^ d)) false = true := h
    rw [Bool.cond_false_right, Bool.and_eq_true] at h
    have hp : 2 ^ (d + 1) = 2 ^ d + 2 ^ d := by rw [pow_succ]; omega
    by_cases hl : e < a + 2 ^ d
    · exact ih a h.1 e h1 hl h3
    · exact ih (a + 2 ^ d) h.2 e (by omega) (by omega) h3

/-- Row `r` is in the set `S`. -/
def has (S r : ℕ) : Bool := Nat.beq (Nat.land (Nat.shiftRight S r) 1) 1

theorem has_eq (S r : ℕ) : has S r = S.testBit r := by
  have h : has S r = Nat.beq ((S >>> r) &&& 1) 1 := rfl
  rw [h, Nat.and_one_is_mod, Nat.testBit_eq_decide_div_mod_eq, Nat.shiftRight_eq_div_pow]
  cases hb : Nat.beq (S / 2 ^ r % 2) 1
  · exact (decide_eq_false (fun h => by rw [h] at hb; exact Bool.noConfusion hb)).symm
  · exact (decide_eq_true (Nat.eq_of_beq_eq_true hb)).symm

/-- The bit of a masked row and of a replaced row. -/
noncomputable def bitM (j : ℕ) : ℕ := Nat.shiftLeft 1 (mW j)
noncomputable def bitR (i : ℕ) : ℕ := Nat.shiftLeft 1 (rW i)

/-- The masked rows among 4096 entries of their list, as a set. -/
abbrev MaskPiece (a : ℕ) : Type := {n : ℕ // apart bitM 50000 12 a = n}

/-- The first entry from `a` on, among `2 ^ d`, that copies to row `r` or a later one, by halving. -/
noncomputable def seek (r d : ℕ) : ℕ → ℕ :=
  Nat.rec (motive := fun _ => ℕ → ℕ) (fun a => a)
    (fun d ih a => cond (cond (Nat.ble (Nat.add a (Nat.pow 2 d)) 53248) (Nat.blt (cW (Nat.pred (Nat.add a (Nat.pow 2 d)))) r) false)
      (ih (Nat.add a (Nat.pow 2 d))) (ih a)) d

/-- Entry `e` copies the replacing row `i` to the replaced row `i`. -/
noncomputable def replaces (i e : ℕ) : Bool :=
  cond (Nat.blt e 53248) (cond (Nat.beq (cW e) (rW i)) (cond (Nat.beq (sW e) (nW i)) (Nat.blt (pW i) 50000) false) false) false

/-- The program replaces row `i` as the reference does. -/
noncomputable def replacedOK (i : ℕ) : Bool := replaces i (seek (rW i) 11 (firstC (Nat.div (rW i) 2500)))

theorem replaces_spec (i e : ℕ) (h : replaces i e = true) : e < 53248 ∧ cW e = rW i ∧ sW e = nW i ∧ pW i < 50000 := by
  unfold replaces at h
  generalize cW e = c at *
  generalize sW e = s at *
  generalize nW i = n at *
  generalize rW i = r at *
  generalize pW i = p at *
  simp only [Bool.cond_false_right, Bool.and_eq_true] at h
  exact ⟨Nat.le_of_ble_eq_true h.1, Nat.eq_of_beq_eq_true h.2.1, Nat.eq_of_beq_eq_true h.2.2.1, Nat.le_of_ble_eq_true h.2.2.2⟩

end Cert.Proof.Tables
-- ==== Proof.ReplacedA.lean ====
/-
  The program replaces the first 1536 replaced rows as the reference does.
-/
module

public import proofs.«01_k».proof.Proof.Masked

@[expose] public section

namespace Cert.Proof.Tables

open Cert.Proof.Scan

set_option maxRecDepth 100000 in
set_option maxHeartbeats 4000000 in
/-- The first 1536 replacements are the program's. -/
theorem replaced_A :
    every replacedOK 2500 9 0 = true
      ∧ every replacedOK 2500 9 512 = true
      ∧ every replacedOK 2500 9 1024 = true := by
  refine ⟨?_, ?_, ?_⟩ <;> decide +kernel

end Cert.Proof.Tables
-- ==== Proof.ReplacedB.lean ====
/-
  The program replaces the other replaced rows as the reference does.
-/
module

public import proofs.«01_k».proof.Proof.Masked

@[expose] public section

namespace Cert.Proof.Tables

open Cert.Proof.Scan

set_option maxRecDepth 100000 in
set_option maxHeartbeats 4000000 in
/-- The other replacements are the program's. -/
theorem replaced_B :
    every replacedOK 2500 9 1536 = true
      ∧ every replacedOK 2500 9 2048 = true := by
  refine ⟨?_, ?_⟩ <;> decide +kernel

end Cert.Proof.Tables
-- ==== Proof.MaskA.lean ====
/-
  The masked rows, from entry 0 of their list to entry 16383, as a set.
-/
module

public import proofs.«01_k».proof.Proof.Masked

@[expose] public section

namespace Cert.Proof.Tables

open Cert.Proof.Scan

set_option maxRecDepth 100000 in
set_option maxHeartbeats 4000000 in
/-- The 4096 masked rows from entry 0 on are apart. -/
noncomputable def mask_0 : MaskPiece 0 := by
  refine ⟨?_, ?_⟩
  rotate_left
  · conv => lhs; whnf

set_option maxRecDepth 100000 in
set_option maxHeartbeats 4000000 in
/-- The 4096 masked rows from entry 4096 on are apart. -/
noncomputable def mask_1 : MaskPiece 4096 := by
  refine ⟨?_, ?_⟩
  rotate_left
  · conv => lhs; whnf

set_option maxRecDepth 100000 in
set_option maxHeartbeats 4000000 in
/-- The 4096 masked rows from entry 8192 on are apart. -/
noncomputable def mask_2 : MaskPiece 8192 := by
  refine ⟨?_, ?_⟩
  rotate_left
  · conv => lhs; whnf

set_option maxRecDepth 100000 in
set_option maxHeartbeats 4000000 in
/-- The 4096 masked rows from entry 12288 on are apart. -/
noncomputable def mask_3 : MaskPiece 12288 := by
  refine ⟨?_, ?_⟩
  rotate_left
  · conv => lhs; whnf

end Cert.Proof.Tables
-- ==== Proof.MaskB.lean ====
/-
  The masked rows, from entry 16384 of their list to entry 32767, as a set.
-/
module

public import proofs.«01_k».proof.Proof.Masked

@[expose] public section

namespace Cert.Proof.Tables

open Cert.Proof.Scan

set_option maxRecDepth 100000 in
set_option maxHeartbeats 4000000 in
/-- The 4096 masked rows from entry 16384 on are apart. -/
noncomputable def mask_4 : MaskPiece 16384 := by
  refine ⟨?_, ?_⟩
  rotate_left
  · conv => lhs; whnf

set_option maxRecDepth 100000 in
set_option maxHeartbeats 4000000 in
/-- The 4096 masked rows from entry 20480 on are apart. -/
noncomputable def mask_5 : MaskPiece 20480 := by
  refine ⟨?_, ?_⟩
  rotate_left
  · conv => lhs; whnf

set_option maxRecDepth 100000 in
set_option maxHeartbeats 4000000 in
/-- The 4096 masked rows from entry 24576 on are apart. -/
noncomputable def mask_6 : MaskPiece 24576 := by
  refine ⟨?_, ?_⟩
  rotate_left
  · conv => lhs; whnf

set_option maxRecDepth 100000 in
set_option maxHeartbeats 4000000 in
/-- The 4096 masked rows from entry 28672 on are apart. -/
noncomputable def mask_7 : MaskPiece 28672 := by
  refine ⟨?_, ?_⟩
  rotate_left
  · conv => lhs; whnf

end Cert.Proof.Tables
-- ==== Proof.MaskC.lean ====
/-
  The masked rows, from entry 32768 of their list to entry 49999, as a set.
-/
module

public import proofs.«01_k».proof.Proof.Masked

@[expose] public section

namespace Cert.Proof.Tables

open Cert.Proof.Scan

set_option maxRecDepth 100000 in
set_option maxHeartbeats 4000000 in
/-- The 4096 masked rows from entry 32768 on are apart. -/
noncomputable def mask_8 : MaskPiece 32768 := by
  refine ⟨?_, ?_⟩
  rotate_left
  · conv => lhs; whnf

set_option maxRecDepth 100000 in
set_option maxHeartbeats 4000000 in
/-- The 4096 masked rows from entry 36864 on are apart. -/
noncomputable def mask_9 : MaskPiece 36864 := by
  refine ⟨?_, ?_⟩
  rotate_left
  · conv => lhs; whnf

set_option maxRecDepth 100000 in
set_option maxHeartbeats 4000000 in
/-- The 4096 masked rows from entry 40960 on are apart. -/
noncomputable def mask_10 : MaskPiece 40960 := by
  refine ⟨?_, ?_⟩
  rotate_left
  · conv => lhs; whnf

set_option maxRecDepth 100000 in
set_option maxHeartbeats 4000000 in
/-- The 4096 masked rows from entry 45056 on are apart. -/
noncomputable def mask_11 : MaskPiece 45056 := by
  refine ⟨?_, ?_⟩
  rotate_left
  · conv => lhs; whnf

set_option maxRecDepth 100000 in
set_option maxHeartbeats 4000000 in
/-- The 848 masked rows from entry 49152 on are apart. -/
noncomputable def mask_12 : MaskPiece 49152 := by
  refine ⟨?_, ?_⟩
  rotate_left
  · conv => lhs; whnf

end Cert.Proof.Tables
-- ==== Proof.Replaced.lean ====
/-
  The replaced rows, as a set.
-/
module

public import proofs.«01_k».proof.Proof.Masked

@[expose] public section

namespace Cert.Proof.Tables

open Cert.Proof.Scan

set_option maxRecDepth 100000 in
set_option maxHeartbeats 4000000 in
/-- The replaced rows. -/
noncomputable def replacedSet : {n : ℕ // bits bitR 2500 12 0 = n} := by
  refine ⟨?_, ?_⟩
  rotate_left
  · conv => lhs; whnf

end Cert.Proof.Tables
-- ==== Proof.MaskRows.lean ====
/-
  The masked rows and the replaced rows, as sets.
-/
module

public import proofs.«01_k».proof.Proof.MaskA
public import proofs.«01_k».proof.Proof.MaskB
public import proofs.«01_k».proof.Proof.MaskC
public import proofs.«01_k».proof.Proof.Replaced

@[expose] public section

namespace Cert.Proof.Tables

open Cert.Proof.Scan

/-- One more stretch of masked rows. -/
theorem stretch (n l : ℕ) (p : MaskPiece (4096 * n)) (h : apartAll bitM 50000 n = l) : apartAll bitM 50000 (n + 1) = join l p.1 := by
  subst h
  exact congrArg (join (apartAll bitM 50000 n)) p.2

set_option maxRecDepth 100000 in
set_option maxHeartbeats 4000000 in
/-- The masked rows. -/
noncomputable def maskSet : {n : ℕ // apartAll bitM 50000 13 = n} := by
  refine ⟨?_, Eq.trans (stretch 12 _ mask_12 (stretch 11 _ mask_11 (stretch 10 _ mask_10 (stretch 9 _ mask_9 (stretch 8 _ mask_8 (stretch 7 _ mask_7 (stretch 6 _ mask_6 (stretch 5 _ mask_5 (stretch 4 _ mask_4 (stretch 3 _ mask_3 (stretch 2 _ mask_2 (stretch 1 _ mask_1 (stretch 0 _ mask_0 rfl))))))))))))) ?_⟩
  rotate_left
  · conv => lhs; whnf

/-- The masked rows are apart, and none is past the last row. -/
theorem mask_marks : has maskSet.1 200000 = false ∧ Nat.beq (Nat.shiftRight maskSet.1 100000) 0 = true := by
  constructor <;> decide +kernel

/-- Entry `e` of the token's rows is a masked row. -/
noncomputable def tokenOK (e : ℕ) : Bool := has maskSet.1 (tW e)

/-- Entry `e` of the copies copies a row that is not masked to itself, or copies to a replaced row. -/
noncomputable def movedOK (e : ℕ) : Bool :=
  cond (Nat.beq (sW e) (cW e)) (cond (has maskSet.1 (cW e)) false true) (has replacedSet.1 (cW e))

end Cert.Proof.Tables
-- ==== Proof.TokenA.lean ====
/-
  The token's rows from entry 0 on are masked.
-/
module

public import proofs.«01_k».proof.Proof.MaskRows

@[expose] public section

namespace Cert.Proof.Tables

open Cert.Proof.Scan

set_option maxRecDepth 100000 in
set_option maxHeartbeats 4000000 in
/-- These rows are masked. -/
theorem token_A :
    every tokenOK 49152 12 0 = true
      ∧ every tokenOK 49152 12 4096 = true
      ∧ every tokenOK 49152 12 8192 = true
      ∧ every tokenOK 49152 12 12288 = true
      ∧ every tokenOK 49152 12 16384 = true
      ∧ every tokenOK 49152 12 20480 = true := by
  refine ⟨?_, ?_, ?_, ?_, ?_, ?_⟩ <;> decide +kernel

end Cert.Proof.Tables
-- ==== Proof.TokenB.lean ====
/-
  The token's rows from entry 24576 on are masked.
-/
module

public import proofs.«01_k».proof.Proof.MaskRows

@[expose] public section

namespace Cert.Proof.Tables

open Cert.Proof.Scan

set_option maxRecDepth 100000 in
set_option maxHeartbeats 4000000 in
/-- These rows are masked. -/
theorem token_B :
    every tokenOK 49152 12 24576 = true
      ∧ every tokenOK 49152 12 28672 = true
      ∧ every tokenOK 49152 12 32768 = true
      ∧ every tokenOK 49152 12 36864 = true
      ∧ every tokenOK 49152 12 40960 = true
      ∧ every tokenOK 49152 12 45056 = true := by
  refine ⟨?_, ?_, ?_, ?_, ?_, ?_⟩ <;> decide +kernel

end Cert.Proof.Tables
-- ==== Proof.MovedA.lean ====
/-
  The copies from entry 0 on keep a row that is not masked, or replace a row.
-/
module

public import proofs.«01_k».proof.Proof.MaskRows

@[expose] public section

namespace Cert.Proof.Tables

open Cert.Proof.Scan

set_option maxRecDepth 100000 in
set_option maxHeartbeats 4000000 in
/-- These copies keep or replace. -/
theorem moved_A :
    every movedOK 53248 12 0 = true
      ∧ every movedOK 53248 12 4096 = true
      ∧ every movedOK 53248 12 8192 = true
      ∧ every movedOK 53248 12 12288 = true
      ∧ every movedOK 53248 12 16384 = true := by
  refine ⟨?_, ?_, ?_, ?_, ?_⟩ <;> decide +kernel

end Cert.Proof.Tables
-- ==== Proof.MovedB.lean ====
/-
  The copies from entry 20480 on keep a row that is not masked, or replace a row.
-/
module

public import proofs.«01_k».proof.Proof.MaskRows

@[expose] public section

namespace Cert.Proof.Tables

open Cert.Proof.Scan

set_option maxRecDepth 100000 in
set_option maxHeartbeats 4000000 in
/-- These copies keep or replace. -/
theorem moved_B :
    every movedOK 53248 12 20480 = true
      ∧ every movedOK 53248 12 24576 = true
      ∧ every movedOK 53248 12 28672 = true
      ∧ every movedOK 53248 12 32768 = true := by
  refine ⟨?_, ?_, ?_, ?_⟩ <;> decide +kernel

end Cert.Proof.Tables
-- ==== Proof.MovedC.lean ====
/-
  The copies from entry 36864 on keep a row that is not masked, or replace a row.
-/
module

public import proofs.«01_k».proof.Proof.MaskRows

@[expose] public section

namespace Cert.Proof.Tables

open Cert.Proof.Scan

set_option maxRecDepth 100000 in
set_option maxHeartbeats 4000000 in
/-- These copies keep or replace. -/
theorem moved_C :
    every movedOK 53248 12 36864 = true
      ∧ every movedOK 53248 12 40960 = true
      ∧ every movedOK 53248 12 45056 = true
      ∧ every movedOK 53248 12 49152 = true := by
  refine ⟨?_, ?_, ?_, ?_⟩ <;> decide +kernel

end Cert.Proof.Tables
-- ==== Proof.MaskFacts.lean ====
/-
  What the reference's lists of rows say of the program's: the masked rows are distinct; a replaced row is copied from the row
  that replaces it; no copy writes another masked row; a row that is not masked is copied to itself.
-/
module

public import proofs.«01_k».proof.Proof.TableFacts
public import proofs.«01_k».proof.Proof.ReplacedA
public import proofs.«01_k».proof.Proof.ReplacedB
public import proofs.«01_k».proof.Proof.TokenA
public import proofs.«01_k».proof.Proof.TokenB
public import proofs.«01_k».proof.Proof.MovedA
public import proofs.«01_k».proof.Proof.MovedB
public import proofs.«01_k».proof.Proof.MovedC

@[expose] public section

namespace Cert.Proof.Tables

open Cert.Proof.Scan

/-! ## The checks, entry by entry -/

/-- A check of all entries, from checks of the stretches of `2 ^ d` that make them up. -/
theorem every_all (f : ℕ → Bool) (hi d n : ℕ) (hn : hi ≤ n * 2 ^ d) (h : ∀ k < n, every f hi d (k * 2 ^ d) = true) (e : ℕ) (he : e < hi) : f e = true := by
  have hp : 0 < 2 ^ d := Nat.two_pow_pos d
  have h1 := Nat.div_add_mod' e (2 ^ d)
  have h2 := Nat.mod_lt e hp
  exact every_spec f hi d _ (h (e / 2 ^ d) (Nat.div_lt_of_lt_mul (by rw [Nat.mul_comm]; omega))) e (by omega) (by omega) he

theorem replaced_ok (i : ℕ) (hi : i < 2500) : replacedOK i = true := by
  obtain ⟨h0, h1, h2⟩ := replaced_A
  obtain ⟨h3, h4⟩ := replaced_B
  generalize replacedOK = f at *
  refine every_all f 2500 9 5 (by decide) (fun k hk => ?_) i hi
  match k, hk with
  | 0, _ => exact h0
  | 1, _ => exact h1
  | 2, _ => exact h2
  | 3, _ => exact h3
  | 4, _ => exact h4

theorem token_ok (e : ℕ) (he : e < 49152) : tokenOK e = true := by
  obtain ⟨h0, h1, h2, h3, h4, h5⟩ := token_A
  obtain ⟨h6, h7, h8, h9, h10, h11⟩ := token_B
  generalize tokenOK = f at *
  refine every_all f 49152 12 12 (by decide) (fun k hk => ?_) e he
  match k, hk with
  | 0, _ => exact h0
  | 1, _ => exact h1
  | 2, _ => exact h2
  | 3, _ => exact h3
  | 4, _ => exact h4
  | 5, _ => exact h5
  | 6, _ => exact h6
  | 7, _ => exact h7
  | 8, _ => exact h8
  | 9, _ => exact h9
  | 10, _ => exact h10
  | 11, _ => exact h11

theorem moved_ok (e : ℕ) (he : e < 53248) : movedOK e = true := by
  obtain ⟨h0, h1, h2, h3, h4⟩ := moved_A
  obtain ⟨h5, h6, h7, h8⟩ := moved_B
  obtain ⟨h9, h10, h11, h12⟩ := moved_C
  generalize movedOK = f at *
  refine every_all f 53248 12 13 (by decide) (fun k hk => ?_) e he
  match k, hk with
  | 0, _ => exact h0
  | 1, _ => exact h1
  | 2, _ => exact h2
  | 3, _ => exact h3
  | 4, _ => exact h4
  | 5, _ => exact h5
  | 6, _ => exact h6
  | 7, _ => exact h7
  | 8, _ => exact h8
  | 9, _ => exact h9
  | 10, _ => exact h10
  | 11, _ => exact h11
  | 12, _ => exact h12

/-! ## The sets -/

/-- A set's bits, from those of a union of single rows. -/
theorem single_iff (f : ℕ → ℕ) (w : ℕ → ℕ) (hf : ∀ e, f e = Nat.shiftLeft 1 (w e)) (e b : ℕ) : (f e).testBit b = true ↔ w e = b := by
  rw [hf, testBit_shift]; exact eq_comm

/-- The masked rows' set, from its value. -/
theorem mask_facts (f w : ℕ → ℕ) (hf : ∀ e, f e = Nat.shiftLeft 1 (w e)) (S : ℕ) (hS : apartAll f 50000 13 = S) (hb : has S 200000 = false)
    (hs : Nat.beq (Nat.shiftRight S 100000) 0 = true) :
    (∀ r, has S r = true ↔ ∃ j < 50000, w j = r) ∧ (∀ j < 50000, ∀ j' < 50000, w j = w j' → j = j') ∧ ∀ j < 50000, w j < 100000 := by
  subst hS
  rw [has_eq] at hb
  have key := apartAll_spec f 50000 200000 rfl 13 hb
  generalize apartAll f 50000 13 = S at *
  obtain ⟨h1, h2⟩ := key
  have hiff : ∀ r, has S r = true ↔ ∃ j < 50000, w j = r := fun r => by
    rw [has_eq, h1]
    exact ⟨fun ⟨e, he, hb⟩ => ⟨e, he.2, (single_iff f w hf e r).1 hb⟩, fun ⟨e, he, hb⟩ => ⟨e, ⟨by omega, he⟩, (single_iff f w hf e r).2 hb⟩⟩
  refine ⟨hiff, fun j hj j' hj' h => ?_, fun j hj => ?_⟩
  · exact h2 j j' (w j) ⟨by omega, hj⟩ ⟨by omega, hj'⟩ ((single_iff f w hf j _).2 rfl) ((single_iff f w hf j' _).2 h.symm)
  · by_contra hlt
    have h3 := (hiff (w j)).2 ⟨j, hj, rfl⟩
    have h4 : S >>> 100000 = 0 := Nat.eq_of_beq_eq_true hs
    rw [has_eq, show w j = 100000 + (w j - 100000) by omega, ← Nat.testBit_shiftRight, h4, Nat.zero_testBit] at h3
    exact Bool.noConfusion h3

theorem mask_set : (∀ r, has maskSet.1 r = true ↔ ∃ j < 50000, mW j = r) ∧ (∀ j < 50000, ∀ j' < 50000, mW j = mW j' → j = j') ∧ ∀ j < 50000, mW j < 100000 :=
  mask_facts bitM mW (fun _ => rfl) maskSet.1 maskSet.2 mask_marks.1 mask_marks.2

theorem replaced_facts (f w : ℕ → ℕ) (hf : ∀ e, f e = Nat.shiftLeft 1 (w e)) (S : ℕ) (hS : bits f 2500 12 0 = S) (r : ℕ) :
    has S r = true ↔ ∃ i < 2500, w i = r := by
  subst hS
  rw [has_eq, testBit_bits]
  exact ⟨fun ⟨e, _, _, he, hb⟩ => ⟨e, he, (single_iff f w hf e r).1 hb⟩,
    fun ⟨e, he, hb⟩ => ⟨e, Nat.zero_le e, by have : (2 : ℕ) ^ 12 = 4096 := rfl; omega, he, (single_iff f w hf e r).2 hb⟩⟩

theorem replaced_set (r : ℕ) : has replacedSet.1 r = true ↔ ∃ i < 2500, rW i = r :=
  replaced_facts bitR rW (fun _ => rfl) replacedSet.1 replacedSet.2 r

/-! ## The rows -/

theorem mW_lt (j : ℕ) (hj : j < 50000) : mW j < 100000 := mask_set.2.2 j hj
theorem mW_inj (j j' : ℕ) (hj : j < 50000) (hj' : j' < 50000) (h : mW j = mW j') : j = j' := mask_set.2.1 j hj j' hj' h

/-- A replaced row is copied from the row that replaces it. -/
theorem replaced_row (i : ℕ) (hi : i < 2500) : (∃ e < 53248, cW e = rW i ∧ sW e = nW i) ∧ pW i < 50000 := by
  have h := replaced_ok i hi
  unfold replacedOK at h
  obtain ⟨h1, h2, h3, h4⟩ := replaces_spec i _ h
  exact ⟨⟨_, h1, h2, h3⟩, h4⟩

/-- A row the token is written to is masked. -/
theorem token_row_masked (e : ℕ) (he : e < 49152) : ∃ j < 50000, mW j = tW e := (mask_set.1 _).1 (token_ok e he)

/-- A copy keeps a row that is not masked, or replaces a row. -/
theorem moved_row (e : ℕ) (he : e < 53248) : (sW e = cW e ∧ ¬ ∃ j < 50000, mW j = cW e) ∨ ∃ i < 2500, rW i = cW e := by
  have h := moved_ok e he
  unfold movedOK at h
  have h1 := mask_set.1 (cW e)
  have h2 := replaced_set (cW e)
  generalize has maskSet.1 (cW e) = p at *
  generalize has replacedSet.1 (cW e) = q at *
  rw [← h1, ← h2]
  cases hb : Nat.beq (sW e) (cW e)
  · rw [hb] at h
    exact .inr h
  · rw [hb] at h
    refine .inl ⟨Nat.eq_of_beq_eq_true hb, fun hp => ?_⟩
    rw [hp] at h
    exact Bool.noConfusion h

/-- No copy writes a masked row that is not replaced. -/
theorem masked_row (r : ℕ) (hm : ∃ j < 50000, mW j = r) (hr : ∀ i < 2500, rW i ≠ r) (e : ℕ) (he : e < 53248) : cW e ≠ r := fun h => by
  subst h
  rcases moved_row e he with h | ⟨i, hi, h⟩
  · exact h.2 hm
  · exact hr i hi h

/-- A row that is not masked is copied to itself. -/
theorem kept_row (r : ℕ) (hr : r < 100000) (hm : ¬ ∃ j < 50000, mW j = r) : ∃ e < 53248, cW e = r ∧ sW e = r := by
  rcases row_named r hr with ⟨e, he, h⟩ | ⟨e, he, h⟩
  · rcases moved_row e he with h1 | ⟨i, hi, h1⟩
    · exact ⟨e, he, h, h1.1.trans h⟩
    · exact (hm ⟨pW i, (replaced_row i hi).2, h1.trans h⟩).elim
  · exact (hm ((token_row_masked e he).imp fun j hj => ⟨hj.1, hj.2.trans h⟩)).elim

end Cert.Proof.Tables
-- ==== Proof.MaskList.lean ====
/-
  The list of masked rows that the kernel returns is the reference's.
-/
module

public import proofs.«01_k».proof.Proof.Masked

@[expose] public section

namespace Cert.Proof.Tables

set_option maxRecDepth 100000 in
set_option maxHeartbeats 4000000 in
/-- The two tables hold the same words. -/
theorem mask_words : Cert.Kernel.lit3t = Cert.ReferenceIdeal.lit0t := rfl

/-- The two lists are the same. -/
theorem mask_list (n : Fin 50000) : Cert.Kernel.lit3 n = Cert.ReferenceIdeal.lit0 n := congrFun mask_words n.val

end Cert.Proof.Tables
-- ==== Proof.Algebraic.lean ====
/-
  The kernel's first result is the reference's, row by row, and its second the reference's list of masked rows.
-/
module

public import proofs.«01_k».proof.Defs
public import proofs.«01_k».proof.Proof.KernelRun
public import proofs.«01_k».proof.Proof.ReferenceValue
public import proofs.«01_k».proof.Proof.MaskFacts
public import proofs.«01_k».proof.Proof.MaskList

@[expose] public section

noncomputable section

namespace Cert.Proof.Algebraic

open Cert.Proof.Tables Cert.Proof.Reference
open Idealize.ShloMosaic Idealize.ShloMosaic.ValueIdx Idealize.SL.Sem

/-! ## The reference's lists, entry by entry -/

theorem mask_at (n : Fin 50000) : (Cert.ReferenceIdeal.lit0 n).toNat = mW n.val := rfl
theorem position_at (n : Fin 2500) : (Cert.ReferenceIdeal.lit1 n).toNat = pW n.val := rfl
theorem source_at (n : Fin 2500) : (Cert.ReferenceIdeal.lit2 n).toNat = nW n.val := rfl

theorem maskList_at (j : Fin 50000) : (maskList (ix1 j)).toNat = mW j.val :=
  (mask_at _).trans (congrArg mW (Shape.rowMajor_val_one (d := ![50000]) (ix1 j)))
theorem positionList_at (i : Fin 2500) : (positionList (ix1 i)).toNat = pW i.val :=
  (position_at _).trans (congrArg pW (Shape.rowMajor_val_one (d := ![2500]) (ix1 i)))
theorem sourceList_at (i : Fin 2500) : (sourceList (ix1 i)).toNat = nW i.val :=
  (source_at _).trans (congrArg nW (Shape.rowMajor_val_one (d := ![2500]) (ix1 i)))

/-! ## The first result -/

/-- The reference's value at a row is the kernel's, for lists that stand to each other as the programs' do. -/
theorem rows_eq (x : Cert.ReferenceIdeal.S100000x128.Idx → EReal) (t : Cert.ReferenceIdeal.S1x128.Idx → EReal)
    (mk : IVec Cert.ReferenceIdeal.S50000 32) (np ns : IVec Cert.ReferenceIdeal.S2500 32)
    (out : Cert.ReferenceIdeal.S100000x128.Idx → EReal) (c s : ℕ → ℕ)
    (hmk : ∀ j : Fin 50000, (mk (ix1 j)).toNat < 100000) (hnp : ∀ i : Fin 2500, (np (ix1 i)).toNat < 50000)
    (hns : ∀ i : Fin 2500, (ns (ix1 i)).toNat < 100000)
    (hinj : ∀ j j' : Fin 50000, (mk (ix1 j)).toNat = (mk (ix1 j')).toNat → j = j')
    (hone : ∀ e < 53248, ∀ e' < 53248, c e = c e' → s e = s e')
    (hrep : ∀ i : Fin 2500, ∃ e < 53248, c e = noiseRow mk np hnp i ∧ s e = (ns (ix1 i)).toNat)
    (htok : ∀ j : Fin 50000, (∀ i, noiseRow mk np hnp i ≠ (mk (ix1 j)).toNat) → ∀ e < 53248, c e ≠ (mk (ix1 j)).toNat)
    (hkeep : ∀ r < 100000, (∀ j : Fin 50000, (mk (ix1 j)).toNat ≠ r) → ∃ e < 53248, c e = r ∧ s e = r)
    (hcopied : ∀ e < 53248, ∀ r q : Fin 100000, c e = r.val → s e = q.val → ∀ k : Fin 128, out (ix2 r k) = x (ix2 q k))
    (htoken : ∀ r : Fin 100000, (∀ e < 53248, c e ≠ r.val) → ∀ k : Fin 128, out (ix2 r k) = t (ix2 (0 : Fin 1) k)) :
    out = maskRows x t mk np ns := by
  funext idx
  obtain ⟨r, k, rfl⟩ : ∃ r : Fin 100000, ∃ k : Fin 128, idx = ix2 r k := ⟨_, _, eq_ix2 idx⟩
  by_cases hi : ∃ i, noiseRow mk np hnp i = r.val
  · obtain ⟨i, hi⟩ := hi
    obtain ⟨e, he, h1, h2⟩ := hrep i
    rw [maskRows_noise x t mk np ns hmk hnp hns i r k hi fun i' hi' => ?_]
    · exact hcopied e he r (sourceRow ns hns i) (h1.trans hi) h2 k
    · obtain ⟨e', he', h1', h2'⟩ := hrep i'
      rw [← h2, ← h2']
      exact hone e' he' e he (by rw [h1, h1', hi, hi'])
  · have hi : ∀ i, noiseRow mk np hnp i ≠ r.val := fun i h => hi ⟨i, h⟩
    by_cases hj : ∃ j : Fin 50000, (mk (ix1 j)).toNat = r.val
    · obtain ⟨j, hj⟩ := hj
      rw [maskRows_token x t mk np ns hmk hnp j r k hi fun j' => ⟨fun h => hinj _ _ (h.trans hj.symm), fun h => h ▸ hj⟩]
      exact htoken r (hj ▸ htok j (hj ▸ hi)) k
    · have hj : ∀ j : Fin 50000, (mk (ix1 j)).toNat ≠ r.val := fun j h => hj ⟨j, h⟩
      obtain ⟨e, he, h1, h2⟩ := hkeep r.val r.isLt hj
      rw [maskRows_rest x t mk np ns hmk hnp r k hj]
      exact hcopied e he r r h1 h2 k

theorem mask_lt (j : Fin 50000) : (maskList (ix1 j)).toNat < 100000 := by
  rw [maskList_at]; exact mW_lt _ j.isLt
theorem position_lt (i : Fin 2500) : (positionList (ix1 i)).toNat < 50000 := by
  rw [positionList_at]; exact (replaced_row _ i.isLt).2
theorem source_lt (i : Fin 2500) : (sourceList (ix1 i)).toNat < 100000 := by
  rw [sourceList_at]
  obtain ⟨⟨e, he, _, h⟩, _⟩ := replaced_row _ i.isLt
  exact h ▸ sW_lt e he

theorem noiseRow_at (i : Fin 2500) : noiseRow maskList positionList position_lt i = rW i.val := by
  unfold noiseRow
  rw [maskList_at]
  exact congrArg mW (positionList_at i)

/-- The kernel's first result is the reference's. -/
theorem rowsOut_eq (x : Cert.ReferenceIdeal.S100000x128.Idx → EReal) (t : Cert.ReferenceIdeal.S1x128.Idx → EReal) :
    KernelTile.rowsOut (F := Ideal) x t = maskRows x t maskList positionList sourceList := by
  refine rows_eq x t maskList positionList sourceList _ cW sW mask_lt position_lt source_lt ?_ ?_ ?_ ?_ ?_ ?_ ?_
  · intro j j' h
    rw [maskList_at, maskList_at] at h
    exact Fin.ext (mW_inj _ _ j.isLt j'.isLt h)
  · exact fun e he e' he' h => (cW_inj e e' he he' h).1
  · intro i
    rw [noiseRow_at, sourceList_at]
    exact (replaced_row _ i.isLt).1
  · intro j hj
    rw [maskList_at] at hj ⊢
    refine masked_row _ ⟨j.val, j.isLt, rfl⟩ fun i hi h => hj ⟨i, hi⟩ ?_
    rw [noiseRow_at]
    exact h
  · intro r hr hj
    refine kept_row r hr fun ⟨j, hj', h⟩ => hj ⟨j, hj'⟩ ?_
    rw [maskList_at]
    exact h
  · exact fun e he r q h1 h2 k => KernelTile.rowsOut_copied (F := Ideal) x t e he r q h1 h2 k
  · exact fun r h k => KernelTile.rowsOut_token (F := Ideal) x t r h k

/-- The kernel's second result is the reference's. -/
theorem maskList_eq : (fun i => Cert.Kernel.lit3 (Cert.Kernel.S50000.rowMajor i)) = maskList :=
  funext fun i => mask_list (Cert.Kernel.S50000.rowMajor i)

/-! ## The claims -/

theorem frame_reference : Cert.quiescent_ReferenceIdeal (hReferenceIdeal := Cert.ReferenceIdeal.Gen.facts) := fun m g _ =>
  (θ_run Cert.ReferenceIdeal.defs _ _).mono (fun _ h => ⟨fun c => ⟨(h.1 c).2.2.1, (h.1 c).2.2.2⟩, h.2⟩) (Reference.run m g)

set_option maxRecDepth 100000 in
set_option maxHeartbeats 4000000 in
theorem results_eq : Cert.algebraic_KernelIdeal_ReferenceIdeal (hKernelIdeal := Cert.KernelIdeal.Gen.facts) (hReferenceIdeal := Cert.ReferenceIdeal.Gen.facts) := by
  intro m g m' g' _ hargs
  refine ⟨fun c => KernelTile.rowsOut (F := Ideal) (m (KernelTile.xLoc c)) (m (KernelTile.a1Loc c)), fun _ => maskList, ?_, ?_⟩
  · refine (θ_run Cert.KernelIdeal.defs _ _).mono (fun _ h c => ?_) (KernelTile.kernelIdeal_run (F := Ideal) m g)
    obtain ⟨h1, h2, h3, h4⟩ := h.1 c
    exact ⟨h3, h4.trans maskList_eq, h1, h2⟩
  · refine (θ_run Cert.ReferenceIdeal.defs _ _).mono (fun _ h c => ?_) (Reference.run m' g')
    obtain ⟨h1, h2, h3, h4⟩ := h.1 c
    refine ⟨?_, h2, h3, h4⟩
    rw [h1, (hargs c).1, (hargs c).2]
    exact (rowsOut_eq _ _).symm

end Cert.Proof.Algebraic

end
-- ==== Proof.lean ====
/-
  The claims: the programs run from any launch contents and end with their arguments unchanged and every counter at zero, and the
  kernel's results are the reference's.
-/
module

public import proofs.«01_k».proof.Defs
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate. -/
theorem claim : Cert.Claim :=
  ⟨Cert.Kernel.Gen.facts, Cert.KernelIdeal.Gen.facts, Cert.ReferenceIdeal.Gen.facts, KernelTile.frame_kernel, KernelTile.frame_kernelIdeal,
    Algebraic.frame_reference, trivial, Algebraic.results_eq⟩

end Cert.Proof

end
